-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8192x512 : Shape := ⟨2, ![8192, 512]⟩
abbrev S3x8 : Shape := ⟨2, ![3, 8]⟩
abbrev S_ : Shape := ⟨0, ![]⟩
abbrev S1x1 : Shape := ⟨2, ![1, 1]⟩
abbrev S128x512 : Shape := ⟨2, ![128, 512]⟩

abbrev nBuf : Space → Nat
  | .hbm => 2
  | .vmem => 1
  | .smem => 0
  | _ => 0

abbrev bufTy : (tb : Table) → Fin (tcTables nBuf tb) → BufTy
  | .hbm, ⟨0, _⟩ => ⟨S2048x512, .f32⟩
  | .hbm, ⟨1, _⟩ => ⟨S8192x512, .f32⟩
  | .local _ .vmem, ⟨0, _⟩ => ⟨S2048x512, .f32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_9 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_8 : BitVec 32 := 16#32
  let v17 : BitVec 32 := Scalar.muli v11 c16_i32_8
  let v18 : BitVec 32 := Scalar.addi c0_i32_9 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v19 : BitVec 32 := Scalar.muli v5 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v23 : BitVec 32 := Scalar.extui v9
  let c0_i32_12 : BitVec 32 := 0#32
  let v24 : BitVec 1 := Scalar.cmpi .ne v23 c0_i32_12
  v24

def k0_dev2 (d0 : Dev nD) : Nat :=
  let c0_i32_325 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_324 : BitVec 32 := 16#32
  let v543 : BitVec 32 := Scalar.muli v2 c16_i32_324
  let v544 : BitVec 32 := Scalar.addi c0_i32_325 v543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_326 : BitVec 32 := 4#32
  let v545 : BitVec 32 := Scalar.muli v13 c4_i32_326
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v547 : BitVec 32 := Scalar.muli v8 c1_i32_327
  let v548 : BitVec 32 := Scalar.addi v546 v547
  v548.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v25 : BitVec 32 := Scalar.extui v10
  let c0_i32_13 : BitVec 32 := 0#32
  let v26 : BitVec 1 := Scalar.cmpi .ne v25 c0_i32_13
  v26

def k0_dev3 (d0 : Dev nD) : Nat :=
  let c0_i32_325 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_324 : BitVec 32 := 16#32
  let v543 : BitVec 32 := Scalar.muli v2 c16_i32_324
  let v544 : BitVec 32 := Scalar.addi c0_i32_325 v543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_326 : BitVec 32 := 4#32
  let v545 : BitVec 32 := Scalar.muli v15 c4_i32_326
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v547 : BitVec 32 := Scalar.muli v8 c1_i32_327
  let v548 : BitVec 32 := Scalar.addi v546 v547
  v548.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v33 : BitVec 32 := Scalar.extui v9
  let c0_i32_16 : BitVec 32 := 0#32
  let v34 : BitVec 1 := Scalar.cmpi .ne v33 c0_i32_16
  v34

def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_335 : BitVec 32 := 0#32
  ![v546.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_325 : BitVec 32 := 1024#32
  let v547 : BitVec 32 := Scalar.muli v2 c1024_i32_325
  let c0_i32_326 : BitVec 32 := 0#32
  let v548 : BitVec 32 := Scalar.addi v547 c0_i32_326
  let c0_i32_336 : BitVec 32 := 0#32
  ![v548.toNat, 0]
def k0_dev4 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v549 : BitVec 32 := Scalar.muli v2 c16_i32_331
  let v550 : BitVec 32 := Scalar.addi c0_i32_332 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_333 : BitVec 32 := 4#32
  let v551 : BitVec 32 := Scalar.muli v13 c4_i32_333
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v553 : BitVec 32 := Scalar.muli v8 c1_i32_334
  let v554 : BitVec 32 := Scalar.addi v552 v553
  v554.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v35 : BitVec 32 := Scalar.extui v10
  let c0_i32_17 : BitVec 32 := 0#32
  let v36 : BitVec 1 := Scalar.cmpi .ne v35 c0_i32_17
  v36

def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_335 : BitVec 32 := 0#32
  ![v546.toNat, 0]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_325 : BitVec 32 := 1024#32
  let v547 : BitVec 32 := Scalar.muli v2 c1024_i32_325
  let c0_i32_326 : BitVec 32 := 0#32
  let v548 : BitVec 32 := Scalar.addi v547 c0_i32_326
  let c0_i32_336 : BitVec 32 := 0#32
  ![v548.toNat, 0]
def k0_dev5 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v549 : BitVec 32 := Scalar.muli v2 c16_i32_331
  let v550 : BitVec 32 := Scalar.addi c0_i32_332 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_333 : BitVec 32 := 4#32
  let v551 : BitVec 32 := Scalar.muli v15 c4_i32_333
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v553 : BitVec 32 := Scalar.muli v8 c1_i32_334
  let v554 : BitVec 32 := Scalar.addi v552 v553
  v554.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v37 : BitVec 32 := Scalar.extui v9
  let c0_i32_18 : BitVec 32 := 0#32
  let v38 : BitVec 1 := Scalar.cmpi .ne v37 c0_i32_18
  v38

def k0_off5 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_334 : BitVec 32 := 0#32
  ![v546.toNat, 0]
def k0_off6 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c128_i32_325 : BitVec 32 := 128#32
  let v548 : BitVec 32 := Scalar.addi v547 c128_i32_325
  let c0_i32_335 : BitVec 32 := 0#32
  ![v548.toNat, 0]
def k0_dev6 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_332 : BitVec 32 := 4#32
  let v551 : BitVec 32 := Scalar.muli v13 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v39 : BitVec 32 := Scalar.extui v10
  let c0_i32_19 : BitVec 32 := 0#32
  let v40 : BitVec 1 := Scalar.cmpi .ne v39 c0_i32_19
  v40

def k0_off7 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_334 : BitVec 32 := 0#32
  ![v546.toNat, 0]
def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c128_i32_325 : BitVec 32 := 128#32
  let v548 : BitVec 32 := Scalar.addi v547 c128_i32_325
  let c0_i32_335 : BitVec 32 := 0#32
  ![v548.toNat, 0]
def k0_dev7 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_332 : BitVec 32 := 4#32
  let v551 : BitVec 32 := Scalar.muli v15 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v41 : BitVec 32 := Scalar.extui v9
  let c0_i32_20 : BitVec 32 := 0#32
  let v42 : BitVec 1 := Scalar.cmpi .ne v41 c0_i32_20
  v42

def k0_off9 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_334 : BitVec 32 := 0#32
  ![v546.toNat, 0]
def k0_off10 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c256_i32_325 : BitVec 32 := 256#32
  let v548 : BitVec 32 := Scalar.addi v547 c256_i32_325
  let c0_i32_335 : BitVec 32 := 0#32
  ![v548.toNat, 0]
def k0_dev8 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_332 : BitVec 32 := 4#32
  let v551 : BitVec 32 := Scalar.muli v13 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v43 : BitVec 32 := Scalar.extui v10
  let c0_i32_21 : BitVec 32 := 0#32
  let v44 : BitVec 1 := Scalar.cmpi .ne v43 c0_i32_21
  v44

def k0_off11 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_334 : BitVec 32 := 0#32
  ![v546.toNat, 0]
def k0_off12 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c256_i32_325 : BitVec 32 := 256#32
  let v548 : BitVec 32 := Scalar.addi v547 c256_i32_325
  let c0_i32_335 : BitVec 32 := 0#32
  ![v548.toNat, 0]
def k0_dev9 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_332 : BitVec 32 := 4#32
  let v551 : BitVec 32 := Scalar.muli v15 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v45 : BitVec 32 := Scalar.extui v9
  let c0_i32_22 : BitVec 32 := 0#32
  let v46 : BitVec 1 := Scalar.cmpi .ne v45 c0_i32_22
  v46

def k0_off13 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_334 : BitVec 32 := 0#32
  ![v546.toNat, 0]
def k0_off14 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c384_i32_325 : BitVec 32 := 384#32
  let v548 : BitVec 32 := Scalar.addi v547 c384_i32_325
  let c0_i32_335 : BitVec 32 := 0#32
  ![v548.toNat, 0]
def k0_dev10 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_332 : BitVec 32 := 4#32
  let v551 : BitVec 32 := Scalar.muli v13 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v47 : BitVec 32 := Scalar.extui v10
  let c0_i32_23 : BitVec 32 := 0#32
  let v48 : BitVec 1 := Scalar.cmpi .ne v47 c0_i32_23
  v48

def k0_off15 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_334 : BitVec 32 := 0#32
  ![v546.toNat, 0]
def k0_off16 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c384_i32_325 : BitVec 32 := 384#32
  let v548 : BitVec 32 := Scalar.addi v547 c384_i32_325
  let c0_i32_335 : BitVec 32 := 0#32
  ![v548.toNat, 0]
def k0_dev11 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_332 : BitVec 32 := 4#32
  let v551 : BitVec 32 := Scalar.muli v15 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v49 : BitVec 32 := Scalar.extui v9
  let c0_i32_24 : BitVec 32 := 0#32
  let v50 : BitVec 1 := Scalar.cmpi .ne v49 c0_i32_24
  v50

def k0_off17 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_334 : BitVec 32 := 0#32
  ![v546.toNat, 0]
def k0_off18 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c512_i32_325 : BitVec 32 := 512#32
  let v548 : BitVec 32 := Scalar.addi v547 c512_i32_325
  let c0_i32_335 : BitVec 32 := 0#32
  ![v548.toNat, 0]
def k0_dev12 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_332 : BitVec 32 := 4#32
  let v551 : BitVec 32 := Scalar.muli v13 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v51 : BitVec 32 := Scalar.extui v10
  let c0_i32_25 : BitVec 32 := 0#32
  let v52 : BitVec 1 := Scalar.cmpi .ne v51 c0_i32_25
  v52

def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_334 : BitVec 32 := 0#32
  ![v546.toNat, 0]
def k0_off20 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c512_i32_325 : BitVec 32 := 512#32
  let v548 : BitVec 32 := Scalar.addi v547 c512_i32_325
  let c0_i32_335 : BitVec 32 := 0#32
  ![v548.toNat, 0]
def k0_dev13 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v549 : BitVec 32 := Scalar.muli v2 c16_i32_330
  let v550 : BitVec 32 := Scalar.addi c0_i32_331 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_332 : BitVec 32 := 4#32
  let v551 : BitVec 32 := Scalar.muli v15 c4_i32_332
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v553 : BitVec 32 := Scalar.muli v8 c1_i32_333
  let v554 : BitVec 32 := Scalar.addi v552 v553
  v554.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v53 : BitVec 32 := Scalar.extui v9
  let c0_i32_26 : BitVec 32 := 0#32
  let v54 : BitVec 1 := Scalar.cmpi .ne v53 c0_i32_26
  v54

def k0_off21 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_333 : BitVec 32 := 0#32
  ![v546.toNat, 0]
def k0_off22 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c640_i32_325 : BitVec 32 := 640#32
  let v548 : BitVec 32 := Scalar.addi v547 c640_i32_325
  let c0_i32_334 : BitVec 32 := 0#32
  ![v548.toNat, 0]
def k0_dev14 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v549 : BitVec 32 := Scalar.muli v2 c16_i32_329
  let v550 : BitVec 32 := Scalar.addi c0_i32_330 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_331 : BitVec 32 := 4#32
  let v551 : BitVec 32 := Scalar.muli v13 c4_i32_331
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v553 : BitVec 32 := Scalar.muli v8 c1_i32_332
  let v554 : BitVec 32 := Scalar.addi v552 v553
  v554.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v55 : BitVec 32 := Scalar.extui v10
  let c0_i32_27 : BitVec 32 := 0#32
  let v56 : BitVec 1 := Scalar.cmpi .ne v55 c0_i32_27
  v56

def k0_off23 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_333 : BitVec 32 := 0#32
  ![v546.toNat, 0]
def k0_off24 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c640_i32_325 : BitVec 32 := 640#32
  let v548 : BitVec 32 := Scalar.addi v547 c640_i32_325
  let c0_i32_334 : BitVec 32 := 0#32
  ![v548.toNat, 0]
def k0_dev15 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v549 : BitVec 32 := Scalar.muli v2 c16_i32_329
  let v550 : BitVec 32 := Scalar.addi c0_i32_330 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_331 : BitVec 32 := 4#32
  let v551 : BitVec 32 := Scalar.muli v15 c4_i32_331
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v553 : BitVec 32 := Scalar.muli v8 c1_i32_332
  let v554 : BitVec 32 := Scalar.addi v552 v553
  v554.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v57 : BitVec 32 := Scalar.extui v9
  let c0_i32_28 : BitVec 32 := 0#32
  let v58 : BitVec 1 := Scalar.cmpi .ne v57 c0_i32_28
  v58

def k0_off25 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_333 : BitVec 32 := 0#32
  ![v546.toNat, 0]
def k0_off26 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c768_i32_325 : BitVec 32 := 768#32
  let v548 : BitVec 32 := Scalar.addi v547 c768_i32_325
  let c0_i32_334 : BitVec 32 := 0#32
  ![v548.toNat, 0]
def k0_dev16 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v549 : BitVec 32 := Scalar.muli v2 c16_i32_329
  let v550 : BitVec 32 := Scalar.addi c0_i32_330 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_331 : BitVec 32 := 4#32
  let v551 : BitVec 32 := Scalar.muli v13 c4_i32_331
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v553 : BitVec 32 := Scalar.muli v8 c1_i32_332
  let v554 : BitVec 32 := Scalar.addi v552 v553
  v554.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v59 : BitVec 32 := Scalar.extui v10
  let c0_i32_29 : BitVec 32 := 0#32
  let v60 : BitVec 1 := Scalar.cmpi .ne v59 c0_i32_29
  v60

def k0_off27 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_333 : BitVec 32 := 0#32
  ![v546.toNat, 0]
def k0_off28 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c768_i32_325 : BitVec 32 := 768#32
  let v548 : BitVec 32 := Scalar.addi v547 c768_i32_325
  let c0_i32_334 : BitVec 32 := 0#32
  ![v548.toNat, 0]
def k0_dev17 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v549 : BitVec 32 := Scalar.muli v2 c16_i32_329
  let v550 : BitVec 32 := Scalar.addi c0_i32_330 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_331 : BitVec 32 := 4#32
  let v551 : BitVec 32 := Scalar.muli v15 c4_i32_331
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v553 : BitVec 32 := Scalar.muli v8 c1_i32_332
  let v554 : BitVec 32 := Scalar.addi v552 v553
  v554.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let v61 : BitVec 32 := Scalar.extui v9
  let c0_i32_30 : BitVec 32 := 0#32
  let v62 : BitVec 1 := Scalar.cmpi .ne v61 c0_i32_30
  v62

def k0_off29 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_333 : BitVec 32 := 0#32
  ![v546.toNat, 0]
def k0_off30 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c896_i32_325 : BitVec 32 := 896#32
  let v548 : BitVec 32 := Scalar.addi v547 c896_i32_325
  let c0_i32_334 : BitVec 32 := 0#32
  ![v548.toNat, 0]
def k0_dev18 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v549 : BitVec 32 := Scalar.muli v2 c16_i32_329
  let v550 : BitVec 32 := Scalar.addi c0_i32_330 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_331 : BitVec 32 := 4#32
  let v551 : BitVec 32 := Scalar.muli v13 c4_i32_331
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v553 : BitVec 32 := Scalar.muli v8 c1_i32_332
  let v554 : BitVec 32 := Scalar.addi v552 v553
  v554.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let v63 : BitVec 32 := Scalar.extui v10
  let c0_i32_31 : BitVec 32 := 0#32
  let v64 : BitVec 1 := Scalar.cmpi .ne v63 c0_i32_31
  v64

def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_323 : BitVec 32 := 2048#32
  let v543 : BitVec 32 := Scalar.muli v5 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_333 : BitVec 32 := 0#32
  ![v546.toNat, 0]
def k0_off32 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c896_i32_325 : BitVec 32 := 896#32
  let v548 : BitVec 32 := Scalar.addi v547 c896_i32_325
  let c0_i32_334 : BitVec 32 := 0#32
  ![v548.toNat, 0]
def k0_dev19 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v549 : BitVec 32 := Scalar.muli v2 c16_i32_329
  let v550 : BitVec 32 := Scalar.addi c0_i32_330 v549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_331 : BitVec 32 := 4#32
  let v551 : BitVec 32 := Scalar.muli v15 c4_i32_331
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v553 : BitVec 32 := Scalar.muli v8 c1_i32_332
  let v554 : BitVec 32 := Scalar.addi v552 v553
  v554.toNat
def k0_off33 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32 : BitVec 32 := 2048#32
  let v65 : BitVec 32 := Scalar.muli v5 c2048_i32
  let c0_i32_32 : BitVec 32 := 0#32
  ![v65.toNat, 0]
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v79 : BitVec 32 := Scalar.extui v69
  let c0_i32_45 : BitVec 32 := 0#32
  let v80 : BitVec 1 := Scalar.cmpi .ne v79 c0_i32_45
  v80

def k0_off34 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev20 (d0 : Dev nD) : Nat :=
  let c0_i32_343 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_342 : BitVec 32 := 16#32
  let v561 : BitVec 32 := Scalar.muli v11 c16_i32_342
  let v562 : BitVec 32 := Scalar.addi c0_i32_343 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v563 : BitVec 32 := Scalar.muli v5 c4_i32_344
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v565 : BitVec 32 := Scalar.muli v8 c1_i32_345
  let v566 : BitVec 32 := Scalar.addi v564 v565
  v566.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v81 : BitVec 32 := Scalar.extui v72
  let c0_i32_46 : BitVec 32 := 0#32
  let v82 : BitVec 1 := Scalar.cmpi .ne v81 c0_i32_46
  v82

def k0_off35 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev21 (d0 : Dev nD) : Nat :=
  let c0_i32_343 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_342 : BitVec 32 := 16#32
  let v561 : BitVec 32 := Scalar.muli v11 c16_i32_342
  let v562 : BitVec 32 := Scalar.addi c0_i32_343 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v563 : BitVec 32 := Scalar.muli v5 c4_i32_344
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v565 : BitVec 32 := Scalar.muli v8 c1_i32_345
  let v566 : BitVec 32 := Scalar.addi v564 v565
  v566.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v83 : BitVec 32 := Scalar.extui v69
  let c0_i32_47 : BitVec 32 := 0#32
  let v84 : BitVec 1 := Scalar.cmpi .ne v83 c0_i32_47
  v84

def k0_off36 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev22 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v85 : BitVec 32 := Scalar.extui v72
  let c0_i32_48 : BitVec 32 := 0#32
  let v86 : BitVec 1 := Scalar.cmpi .ne v85 c0_i32_48
  v86

def k0_off37 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev23 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v87 : BitVec 32 := Scalar.extui v69
  let c0_i32_49 : BitVec 32 := 0#32
  let v88 : BitVec 1 := Scalar.cmpi .ne v87 c0_i32_49
  v88

def k0_off38 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev24 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v89 : BitVec 32 := Scalar.extui v72
  let c0_i32_50 : BitVec 32 := 0#32
  let v90 : BitVec 1 := Scalar.cmpi .ne v89 c0_i32_50
  v90

def k0_off39 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev25 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v91 : BitVec 32 := Scalar.extui v69
  let c0_i32_51 : BitVec 32 := 0#32
  let v92 : BitVec 1 := Scalar.cmpi .ne v91 c0_i32_51
  v92

def k0_off40 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev26 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v93 : BitVec 32 := Scalar.extui v72
  let c0_i32_52 : BitVec 32 := 0#32
  let v94 : BitVec 1 := Scalar.cmpi .ne v93 c0_i32_52
  v94

def k0_off41 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev27 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v95 : BitVec 32 := Scalar.extui v69
  let c0_i32_53 : BitVec 32 := 0#32
  let v96 : BitVec 1 := Scalar.cmpi .ne v95 c0_i32_53
  v96

def k0_off42 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev28 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v97 : BitVec 32 := Scalar.extui v72
  let c0_i32_54 : BitVec 32 := 0#32
  let v98 : BitVec 1 := Scalar.cmpi .ne v97 c0_i32_54
  v98

def k0_off43 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev29 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v99 : BitVec 32 := Scalar.extui v69
  let c0_i32_55 : BitVec 32 := 0#32
  let v100 : BitVec 1 := Scalar.cmpi .ne v99 c0_i32_55
  v100

def k0_off44 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev30 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v101 : BitVec 32 := Scalar.extui v72
  let c0_i32_56 : BitVec 32 := 0#32
  let v102 : BitVec 1 := Scalar.cmpi .ne v101 c0_i32_56
  v102

def k0_off45 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev31 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v103 : BitVec 32 := Scalar.extui v69
  let c0_i32_57 : BitVec 32 := 0#32
  let v104 : BitVec 1 := Scalar.cmpi .ne v103 c0_i32_57
  v104

def k0_off46 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev32 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v105 : BitVec 32 := Scalar.extui v72
  let c0_i32_58 : BitVec 32 := 0#32
  let v106 : BitVec 1 := Scalar.cmpi .ne v105 c0_i32_58
  v106

def k0_off47 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev33 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v67 : BitVec 32 := Scalar.addi v5 c1_i32_33
  let c0_i32_34 : BitVec 32 := 0#32
  let v68 : BitVec 32 := Scalar.addi v67 c0_i32_34
  let c3_i32_35 : BitVec 32 := 3#32
  let v69 : BitVec 1 := Scalar.cmpi .sle v68 c3_i32_35
  let v107 : BitVec 32 := Scalar.extui v69
  let c0_i32_59 : BitVec 32 := 0#32
  let v108 : BitVec 1 := Scalar.cmpi .ne v107 c0_i32_59
  v108

def k0_off48 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v73 : BitVec 32 := Scalar.addi v5 c1_i32_39
  let c0_i32_40 : BitVec 32 := 0#32
  let v74 : BitVec 32 := Scalar.addi v73 c0_i32_40
  let c3_i32_41 : BitVec 32 := 3#32
  let v75 : BitVec 32 := Scalar.minsi v74 c3_i32_41
  let c2048_i32_323 : BitVec 32 := 2048#32
  let v543 : BitVec 32 := Scalar.muli v75 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev34 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_36 : BitVec 32 := 1#32
  let v70 : BitVec 32 := Scalar.subi v5 c1_i32_36
  let c0_i32_37 : BitVec 32 := 0#32
  let v71 : BitVec 32 := Scalar.subi v70 c0_i32_37
  let c0_i32_38 : BitVec 32 := 0#32
  let v72 : BitVec 1 := Scalar.cmpi .sge v71 c0_i32_38
  let v109 : BitVec 32 := Scalar.extui v72
  let c0_i32_60 : BitVec 32 := 0#32
  let v110 : BitVec 1 := Scalar.cmpi .ne v109 c0_i32_60
  v110

def k0_off49 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_43 : BitVec 32 := 0#32
  let v77 : BitVec 32 := Scalar.subi v76 c0_i32_43
  let c0_i32_44 : BitVec 32 := 0#32
  let v78 : BitVec 32 := Scalar.maxsi v77 c0_i32_44
  let c2048_i32_323 : BitVec 32 := 2048#32
  let v543 : BitVec 32 := Scalar.muli v78 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev35 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v133 : BitVec 32 := Scalar.extui v117
  let c0_i32_81 : BitVec 32 := 0#32
  let v134 : BitVec 1 := Scalar.cmpi .ne v133 c0_i32_81
  v134

def k0_off50 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev36 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v547 : BitVec 32 := Scalar.muli v2 c16_i32_329
  let v548 : BitVec 32 := Scalar.addi c0_i32_330 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_331 : BitVec 32 := 4#32
  let v549 : BitVec 32 := Scalar.muli v13 c4_i32_331
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v551 : BitVec 32 := Scalar.muli v8 c1_i32_332
  let v552 : BitVec 32 := Scalar.addi v550 v551
  v552.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v135 : BitVec 32 := Scalar.extui v120
  let c0_i32_82 : BitVec 32 := 0#32
  let v136 : BitVec 1 := Scalar.cmpi .ne v135 c0_i32_82
  v136

def k0_off51 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev37 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v547 : BitVec 32 := Scalar.muli v2 c16_i32_329
  let v548 : BitVec 32 := Scalar.addi c0_i32_330 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_331 : BitVec 32 := 4#32
  let v549 : BitVec 32 := Scalar.muli v15 c4_i32_331
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v551 : BitVec 32 := Scalar.muli v8 c1_i32_332
  let v552 : BitVec 32 := Scalar.addi v550 v551
  v552.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v137 : BitVec 32 := Scalar.extui v117
  let c0_i32_83 : BitVec 32 := 0#32
  let v138 : BitVec 1 := Scalar.cmpi .ne v137 c0_i32_83
  v138

def k0_off52 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev38 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v139 : BitVec 32 := Scalar.extui v120
  let c0_i32_84 : BitVec 32 := 0#32
  let v140 : BitVec 1 := Scalar.cmpi .ne v139 c0_i32_84
  v140

def k0_off53 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev39 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v141 : BitVec 32 := Scalar.extui v117
  let c0_i32_85 : BitVec 32 := 0#32
  let v142 : BitVec 1 := Scalar.cmpi .ne v141 c0_i32_85
  v142

def k0_off54 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev40 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v143 : BitVec 32 := Scalar.extui v120
  let c0_i32_86 : BitVec 32 := 0#32
  let v144 : BitVec 1 := Scalar.cmpi .ne v143 c0_i32_86
  v144

def k0_off55 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev41 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v145 : BitVec 32 := Scalar.extui v117
  let c0_i32_87 : BitVec 32 := 0#32
  let v146 : BitVec 1 := Scalar.cmpi .ne v145 c0_i32_87
  v146

def k0_off56 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev42 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v147 : BitVec 32 := Scalar.extui v120
  let c0_i32_88 : BitVec 32 := 0#32
  let v148 : BitVec 1 := Scalar.cmpi .ne v147 c0_i32_88
  v148

def k0_off57 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev43 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v149 : BitVec 32 := Scalar.extui v117
  let c0_i32_89 : BitVec 32 := 0#32
  let v150 : BitVec 1 := Scalar.cmpi .ne v149 c0_i32_89
  v150

def k0_off58 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev44 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v151 : BitVec 32 := Scalar.extui v120
  let c0_i32_90 : BitVec 32 := 0#32
  let v152 : BitVec 1 := Scalar.cmpi .ne v151 c0_i32_90
  v152

def k0_off59 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev45 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v153 : BitVec 32 := Scalar.extui v117
  let c0_i32_91 : BitVec 32 := 0#32
  let v154 : BitVec 1 := Scalar.cmpi .ne v153 c0_i32_91
  v154

def k0_off60 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev46 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_329 : BitVec 32 := 4#32
  let v549 : BitVec 32 := Scalar.muli v13 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v155 : BitVec 32 := Scalar.extui v120
  let c0_i32_92 : BitVec 32 := 0#32
  let v156 : BitVec 1 := Scalar.cmpi .ne v155 c0_i32_92
  v156

def k0_off61 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev47 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_329 : BitVec 32 := 4#32
  let v549 : BitVec 32 := Scalar.muli v15 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v157 : BitVec 32 := Scalar.extui v117
  let c0_i32_93 : BitVec 32 := 0#32
  let v158 : BitVec 1 := Scalar.cmpi .ne v157 c0_i32_93
  v158

def k0_off62 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev48 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_329 : BitVec 32 := 4#32
  let v549 : BitVec 32 := Scalar.muli v13 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v159 : BitVec 32 := Scalar.extui v120
  let c0_i32_94 : BitVec 32 := 0#32
  let v160 : BitVec 1 := Scalar.cmpi .ne v159 c0_i32_94
  v160

def k0_off63 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev49 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_329 : BitVec 32 := 4#32
  let v549 : BitVec 32 := Scalar.muli v15 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_65 : BitVec 32 := 1#32
  let v115 : BitVec 32 := Scalar.addi v5 c1_i32_65
  let c3_i32_66 : BitVec 32 := 3#32
  let v116 : BitVec 1 := Scalar.cmpi .sle v115 c3_i32_66
  let v117 : BitVec 1 := Scalar.andi v9 v116
  let v161 : BitVec 32 := Scalar.extui v117
  let c0_i32_95 : BitVec 32 := 0#32
  let v162 : BitVec 1 := Scalar.cmpi .ne v161 c0_i32_95
  v162

def k0_off64 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v111 : BitVec 32 := Scalar.addi v5 c1_i32_61
  let c3_i32_62 : BitVec 32 := 3#32
  let v112 : BitVec 32 := Scalar.minsi v111 c3_i32_62
  let c2048_i32_323 : BitVec 32 := 2048#32
  let v543 : BitVec 32 := Scalar.muli v112 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev50 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_329 : BitVec 32 := 4#32
  let v549 : BitVec 32 := Scalar.muli v13 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_67 : BitVec 32 := 1#32
  let v118 : BitVec 32 := Scalar.subi v5 c1_i32_67
  let c0_i32_68 : BitVec 32 := 0#32
  let v119 : BitVec 1 := Scalar.cmpi .sge v118 c0_i32_68
  let v120 : BitVec 1 := Scalar.andi v10 v119
  let v163 : BitVec 32 := Scalar.extui v120
  let c0_i32_96 : BitVec 32 := 0#32
  let v164 : BitVec 1 := Scalar.cmpi .ne v163 c0_i32_96
  v164

def k0_off65 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_63 : BitVec 32 := 1#32
  let v113 : BitVec 32 := Scalar.subi v5 c1_i32_63
  let c0_i32_64 : BitVec 32 := 0#32
  let v114 : BitVec 32 := Scalar.maxsi v113 c0_i32_64
  let c2048_i32_323 : BitVec 32 := 2048#32
  let v543 : BitVec 32 := Scalar.muli v114 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev51 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_329 : BitVec 32 := 4#32
  let v549 : BitVec 32 := Scalar.muli v15 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v165 : BitVec 32 := Scalar.extui v123
  let c0_i32_97 : BitVec 32 := 0#32
  let v166 : BitVec 1 := Scalar.cmpi .ne v165 c0_i32_97
  v166

def k0_off66 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev52 (d0 : Dev nD) : Nat :=
  let c0_i32_343 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_342 : BitVec 32 := 16#32
  let v561 : BitVec 32 := Scalar.muli v11 c16_i32_342
  let v562 : BitVec 32 := Scalar.addi c0_i32_343 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v563 : BitVec 32 := Scalar.muli v5 c4_i32_344
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v565 : BitVec 32 := Scalar.muli v8 c1_i32_345
  let v566 : BitVec 32 := Scalar.addi v564 v565
  v566.toNat
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v167 : BitVec 32 := Scalar.extui v126
  let c0_i32_98 : BitVec 32 := 0#32
  let v168 : BitVec 1 := Scalar.cmpi .ne v167 c0_i32_98
  v168

def k0_off67 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev53 (d0 : Dev nD) : Nat :=
  let c0_i32_343 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_342 : BitVec 32 := 16#32
  let v561 : BitVec 32 := Scalar.muli v11 c16_i32_342
  let v562 : BitVec 32 := Scalar.addi c0_i32_343 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v563 : BitVec 32 := Scalar.muli v5 c4_i32_344
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v565 : BitVec 32 := Scalar.muli v8 c1_i32_345
  let v566 : BitVec 32 := Scalar.addi v564 v565
  v566.toNat
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v169 : BitVec 32 := Scalar.extui v123
  let c0_i32_99 : BitVec 32 := 0#32
  let v170 : BitVec 1 := Scalar.cmpi .ne v169 c0_i32_99
  v170

def k0_off68 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev54 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v171 : BitVec 32 := Scalar.extui v126
  let c0_i32_100 : BitVec 32 := 0#32
  let v172 : BitVec 1 := Scalar.cmpi .ne v171 c0_i32_100
  v172

def k0_off69 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev55 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v173 : BitVec 32 := Scalar.extui v123
  let c0_i32_101 : BitVec 32 := 0#32
  let v174 : BitVec 1 := Scalar.cmpi .ne v173 c0_i32_101
  v174

def k0_off70 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev56 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v175 : BitVec 32 := Scalar.extui v126
  let c0_i32_102 : BitVec 32 := 0#32
  let v176 : BitVec 1 := Scalar.cmpi .ne v175 c0_i32_102
  v176

def k0_off71 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev57 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v177 : BitVec 32 := Scalar.extui v123
  let c0_i32_103 : BitVec 32 := 0#32
  let v178 : BitVec 1 := Scalar.cmpi .ne v177 c0_i32_103
  v178

def k0_off72 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev58 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v179 : BitVec 32 := Scalar.extui v126
  let c0_i32_104 : BitVec 32 := 0#32
  let v180 : BitVec 1 := Scalar.cmpi .ne v179 c0_i32_104
  v180

def k0_off73 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev59 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v181 : BitVec 32 := Scalar.extui v123
  let c0_i32_105 : BitVec 32 := 0#32
  let v182 : BitVec 1 := Scalar.cmpi .ne v181 c0_i32_105
  v182

def k0_off74 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev60 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v183 : BitVec 32 := Scalar.extui v126
  let c0_i32_106 : BitVec 32 := 0#32
  let v184 : BitVec 1 := Scalar.cmpi .ne v183 c0_i32_106
  v184

def k0_off75 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev61 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v185 : BitVec 32 := Scalar.extui v123
  let c0_i32_107 : BitVec 32 := 0#32
  let v186 : BitVec 1 := Scalar.cmpi .ne v185 c0_i32_107
  v186

def k0_off76 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev62 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v187 : BitVec 32 := Scalar.extui v126
  let c0_i32_108 : BitVec 32 := 0#32
  let v188 : BitVec 1 := Scalar.cmpi .ne v187 c0_i32_108
  v188

def k0_off77 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev63 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v189 : BitVec 32 := Scalar.extui v123
  let c0_i32_109 : BitVec 32 := 0#32
  let v190 : BitVec 1 := Scalar.cmpi .ne v189 c0_i32_109
  v190

def k0_off78 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev64 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v191 : BitVec 32 := Scalar.extui v126
  let c0_i32_110 : BitVec 32 := 0#32
  let v192 : BitVec 1 := Scalar.cmpi .ne v191 c0_i32_110
  v192

def k0_off79 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev65 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_69 : BitVec 32 := 1#32
  let v121 : BitVec 32 := Scalar.addi v5 c1_i32_69
  let c1_i32_70 : BitVec 32 := 1#32
  let v122 : BitVec 32 := Scalar.addi v121 c1_i32_70
  let c3_i32_71 : BitVec 32 := 3#32
  let v123 : BitVec 1 := Scalar.cmpi .sle v122 c3_i32_71
  let v193 : BitVec 32 := Scalar.extui v123
  let c0_i32_111 : BitVec 32 := 0#32
  let v194 : BitVec 1 := Scalar.cmpi .ne v193 c0_i32_111
  v194

def k0_off80 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_75 : BitVec 32 := 1#32
  let v127 : BitVec 32 := Scalar.addi v5 c1_i32_75
  let c1_i32_76 : BitVec 32 := 1#32
  let v128 : BitVec 32 := Scalar.addi v127 c1_i32_76
  let c3_i32_77 : BitVec 32 := 3#32
  let v129 : BitVec 32 := Scalar.minsi v128 c3_i32_77
  let c2048_i32_323 : BitVec 32 := 2048#32
  let v543 : BitVec 32 := Scalar.muli v129 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev66 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_72 : BitVec 32 := 1#32
  let v124 : BitVec 32 := Scalar.subi v5 c1_i32_72
  let c1_i32_73 : BitVec 32 := 1#32
  let v125 : BitVec 32 := Scalar.subi v124 c1_i32_73
  let c0_i32_74 : BitVec 32 := 0#32
  let v126 : BitVec 1 := Scalar.cmpi .sge v125 c0_i32_74
  let v195 : BitVec 32 := Scalar.extui v126
  let c0_i32_112 : BitVec 32 := 0#32
  let v196 : BitVec 1 := Scalar.cmpi .ne v195 c0_i32_112
  v196

def k0_off81 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v130 : BitVec 32 := Scalar.subi v5 c1_i32_78
  let c1_i32_79 : BitVec 32 := 1#32
  let v131 : BitVec 32 := Scalar.subi v130 c1_i32_79
  let c0_i32_80 : BitVec 32 := 0#32
  let v132 : BitVec 32 := Scalar.maxsi v131 c0_i32_80
  let c2048_i32_323 : BitVec 32 := 2048#32
  let v543 : BitVec 32 := Scalar.muli v132 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev67 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v219 : BitVec 32 := Scalar.extui v203
  let c0_i32_133 : BitVec 32 := 0#32
  let v220 : BitVec 1 := Scalar.cmpi .ne v219 c0_i32_133
  v220

def k0_off82 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev68 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v547 : BitVec 32 := Scalar.muli v2 c16_i32_329
  let v548 : BitVec 32 := Scalar.addi c0_i32_330 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_331 : BitVec 32 := 4#32
  let v549 : BitVec 32 := Scalar.muli v13 c4_i32_331
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v551 : BitVec 32 := Scalar.muli v8 c1_i32_332
  let v552 : BitVec 32 := Scalar.addi v550 v551
  v552.toNat
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v221 : BitVec 32 := Scalar.extui v206
  let c0_i32_134 : BitVec 32 := 0#32
  let v222 : BitVec 1 := Scalar.cmpi .ne v221 c0_i32_134
  v222

def k0_off83 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev69 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v547 : BitVec 32 := Scalar.muli v2 c16_i32_329
  let v548 : BitVec 32 := Scalar.addi c0_i32_330 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_331 : BitVec 32 := 4#32
  let v549 : BitVec 32 := Scalar.muli v15 c4_i32_331
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v551 : BitVec 32 := Scalar.muli v8 c1_i32_332
  let v552 : BitVec 32 := Scalar.addi v550 v551
  v552.toNat
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v223 : BitVec 32 := Scalar.extui v203
  let c0_i32_135 : BitVec 32 := 0#32
  let v224 : BitVec 1 := Scalar.cmpi .ne v223 c0_i32_135
  v224

def k0_off84 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev70 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v225 : BitVec 32 := Scalar.extui v206
  let c0_i32_136 : BitVec 32 := 0#32
  let v226 : BitVec 1 := Scalar.cmpi .ne v225 c0_i32_136
  v226

def k0_off85 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev71 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v227 : BitVec 32 := Scalar.extui v203
  let c0_i32_137 : BitVec 32 := 0#32
  let v228 : BitVec 1 := Scalar.cmpi .ne v227 c0_i32_137
  v228

def k0_off86 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev72 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v229 : BitVec 32 := Scalar.extui v206
  let c0_i32_138 : BitVec 32 := 0#32
  let v230 : BitVec 1 := Scalar.cmpi .ne v229 c0_i32_138
  v230

def k0_off87 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev73 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v231 : BitVec 32 := Scalar.extui v203
  let c0_i32_139 : BitVec 32 := 0#32
  let v232 : BitVec 1 := Scalar.cmpi .ne v231 c0_i32_139
  v232

def k0_off88 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev74 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v233 : BitVec 32 := Scalar.extui v206
  let c0_i32_140 : BitVec 32 := 0#32
  let v234 : BitVec 1 := Scalar.cmpi .ne v233 c0_i32_140
  v234

def k0_off89 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev75 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v235 : BitVec 32 := Scalar.extui v203
  let c0_i32_141 : BitVec 32 := 0#32
  let v236 : BitVec 1 := Scalar.cmpi .ne v235 c0_i32_141
  v236

def k0_off90 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev76 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_330 : BitVec 32 := 4#32
  let v549 : BitVec 32 := Scalar.muli v13 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v237 : BitVec 32 := Scalar.extui v206
  let c0_i32_142 : BitVec 32 := 0#32
  let v238 : BitVec 1 := Scalar.cmpi .ne v237 c0_i32_142
  v238

def k0_off91 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev77 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v547 : BitVec 32 := Scalar.muli v2 c16_i32_328
  let v548 : BitVec 32 := Scalar.addi c0_i32_329 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_330 : BitVec 32 := 4#32
  let v549 : BitVec 32 := Scalar.muli v15 c4_i32_330
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v551 : BitVec 32 := Scalar.muli v8 c1_i32_331
  let v552 : BitVec 32 := Scalar.addi v550 v551
  v552.toNat
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v239 : BitVec 32 := Scalar.extui v203
  let c0_i32_143 : BitVec 32 := 0#32
  let v240 : BitVec 1 := Scalar.cmpi .ne v239 c0_i32_143
  v240

def k0_off92 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev78 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_329 : BitVec 32 := 4#32
  let v549 : BitVec 32 := Scalar.muli v13 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v241 : BitVec 32 := Scalar.extui v206
  let c0_i32_144 : BitVec 32 := 0#32
  let v242 : BitVec 1 := Scalar.cmpi .ne v241 c0_i32_144
  v242

def k0_off93 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev79 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_329 : BitVec 32 := 4#32
  let v549 : BitVec 32 := Scalar.muli v15 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond81 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v243 : BitVec 32 := Scalar.extui v203
  let c0_i32_145 : BitVec 32 := 0#32
  let v244 : BitVec 1 := Scalar.cmpi .ne v243 c0_i32_145
  v244

def k0_off94 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev80 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_329 : BitVec 32 := 4#32
  let v549 : BitVec 32 := Scalar.muli v13 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v245 : BitVec 32 := Scalar.extui v206
  let c0_i32_146 : BitVec 32 := 0#32
  let v246 : BitVec 1 := Scalar.cmpi .ne v245 c0_i32_146
  v246

def k0_off95 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev81 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_329 : BitVec 32 := 4#32
  let v549 : BitVec 32 := Scalar.muli v15 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_117 : BitVec 32 := 2#32
  let v201 : BitVec 32 := Scalar.addi v5 c2_i32_117
  let c3_i32_118 : BitVec 32 := 3#32
  let v202 : BitVec 1 := Scalar.cmpi .sle v201 c3_i32_118
  let v203 : BitVec 1 := Scalar.andi v9 v202
  let v247 : BitVec 32 := Scalar.extui v203
  let c0_i32_147 : BitVec 32 := 0#32
  let v248 : BitVec 1 := Scalar.cmpi .ne v247 c0_i32_147
  v248

def k0_off96 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_113 : BitVec 32 := 2#32
  let v197 : BitVec 32 := Scalar.addi v5 c2_i32_113
  let c3_i32_114 : BitVec 32 := 3#32
  let v198 : BitVec 32 := Scalar.minsi v197 c3_i32_114
  let c2048_i32_323 : BitVec 32 := 2048#32
  let v543 : BitVec 32 := Scalar.muli v198 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev82 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.subi v5 c1_i32_5
  let c0_i32 : BitVec 32 := 0#32
  let v13 : BitVec 32 := Scalar.maxsi v12 c0_i32
  let c4_i32_329 : BitVec 32 := 4#32
  let v549 : BitVec 32 := Scalar.muli v13 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_119 : BitVec 32 := 2#32
  let v204 : BitVec 32 := Scalar.subi v5 c2_i32_119
  let c0_i32_120 : BitVec 32 := 0#32
  let v205 : BitVec 1 := Scalar.cmpi .sge v204 c0_i32_120
  let v206 : BitVec 1 := Scalar.andi v10 v205
  let v249 : BitVec 32 := Scalar.extui v206
  let c0_i32_148 : BitVec 32 := 0#32
  let v250 : BitVec 1 := Scalar.cmpi .ne v249 c0_i32_148
  v250

def k0_off97 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_115 : BitVec 32 := 2#32
  let v199 : BitVec 32 := Scalar.subi v5 c2_i32_115
  let c0_i32_116 : BitVec 32 := 0#32
  let v200 : BitVec 32 := Scalar.maxsi v199 c0_i32_116
  let c2048_i32_323 : BitVec 32 := 2048#32
  let v543 : BitVec 32 := Scalar.muli v200 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev83 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v547 : BitVec 32 := Scalar.muli v2 c16_i32_327
  let v548 : BitVec 32 := Scalar.addi c0_i32_328 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.addi v5 c1_i32_6
  let c3_i32 : BitVec 32 := 3#32
  let v15 : BitVec 32 := Scalar.minsi v14 c3_i32
  let c4_i32_329 : BitVec 32 := 4#32
  let v549 : BitVec 32 := Scalar.muli v15 c4_i32_329
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v551 : BitVec 32 := Scalar.muli v8 c1_i32_330
  let v552 : BitVec 32 := Scalar.addi v550 v551
  v552.toNat
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v251 : BitVec 32 := Scalar.extui v209
  let c0_i32_149 : BitVec 32 := 0#32
  let v252 : BitVec 1 := Scalar.cmpi .ne v251 c0_i32_149
  v252

def k0_off98 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev84 (d0 : Dev nD) : Nat :=
  let c0_i32_343 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_342 : BitVec 32 := 16#32
  let v561 : BitVec 32 := Scalar.muli v11 c16_i32_342
  let v562 : BitVec 32 := Scalar.addi c0_i32_343 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v563 : BitVec 32 := Scalar.muli v5 c4_i32_344
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v565 : BitVec 32 := Scalar.muli v8 c1_i32_345
  let v566 : BitVec 32 := Scalar.addi v564 v565
  v566.toNat
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v253 : BitVec 32 := Scalar.extui v212
  let c0_i32_150 : BitVec 32 := 0#32
  let v254 : BitVec 1 := Scalar.cmpi .ne v253 c0_i32_150
  v254

def k0_off99 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_dev85 (d0 : Dev nD) : Nat :=
  let c0_i32_343 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_342 : BitVec 32 := 16#32
  let v561 : BitVec 32 := Scalar.muli v11 c16_i32_342
  let v562 : BitVec 32 := Scalar.addi c0_i32_343 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v563 : BitVec 32 := Scalar.muli v5 c4_i32_344
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v565 : BitVec 32 := Scalar.muli v8 c1_i32_345
  let v566 : BitVec 32 := Scalar.addi v564 v565
  v566.toNat
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v255 : BitVec 32 := Scalar.extui v209
  let c0_i32_151 : BitVec 32 := 0#32
  let v256 : BitVec 1 := Scalar.cmpi .ne v255 c0_i32_151
  v256

def k0_off100 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev86 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v257 : BitVec 32 := Scalar.extui v212
  let c0_i32_152 : BitVec 32 := 0#32
  let v258 : BitVec 1 := Scalar.cmpi .ne v257 c0_i32_152
  v258

def k0_off101 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_dev87 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v259 : BitVec 32 := Scalar.extui v209
  let c0_i32_153 : BitVec 32 := 0#32
  let v260 : BitVec 1 := Scalar.cmpi .ne v259 c0_i32_153
  v260

def k0_off102 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev88 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v261 : BitVec 32 := Scalar.extui v212
  let c0_i32_154 : BitVec 32 := 0#32
  let v262 : BitVec 1 := Scalar.cmpi .ne v261 c0_i32_154
  v262

def k0_off103 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_dev89 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v263 : BitVec 32 := Scalar.extui v209
  let c0_i32_155 : BitVec 32 := 0#32
  let v264 : BitVec 1 := Scalar.cmpi .ne v263 c0_i32_155
  v264

def k0_off104 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev90 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v265 : BitVec 32 := Scalar.extui v212
  let c0_i32_156 : BitVec 32 := 0#32
  let v266 : BitVec 1 := Scalar.cmpi .ne v265 c0_i32_156
  v266

def k0_off105 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_dev91 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v267 : BitVec 32 := Scalar.extui v209
  let c0_i32_157 : BitVec 32 := 0#32
  let v268 : BitVec 1 := Scalar.cmpi .ne v267 c0_i32_157
  v268

def k0_off106 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev92 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v269 : BitVec 32 := Scalar.extui v212
  let c0_i32_158 : BitVec 32 := 0#32
  let v270 : BitVec 1 := Scalar.cmpi .ne v269 c0_i32_158
  v270

def k0_off107 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_dev93 (d0 : Dev nD) : Nat :=
  let c0_i32_342 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_341 : BitVec 32 := 16#32
  let v561 : BitVec 32 := Scalar.muli v11 c16_i32_341
  let v562 : BitVec 32 := Scalar.addi c0_i32_342 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_343 : BitVec 32 := 4#32
  let v563 : BitVec 32 := Scalar.muli v5 c4_i32_343
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v565 : BitVec 32 := Scalar.muli v8 c1_i32_344
  let v566 : BitVec 32 := Scalar.addi v564 v565
  v566.toNat
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v271 : BitVec 32 := Scalar.extui v209
  let c0_i32_159 : BitVec 32 := 0#32
  let v272 : BitVec 1 := Scalar.cmpi .ne v271 c0_i32_159
  v272

def k0_off108 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev94 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v273 : BitVec 32 := Scalar.extui v212
  let c0_i32_160 : BitVec 32 := 0#32
  let v274 : BitVec 1 := Scalar.cmpi .ne v273 c0_i32_160
  v274

def k0_off109 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_dev95 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v275 : BitVec 32 := Scalar.extui v209
  let c0_i32_161 : BitVec 32 := 0#32
  let v276 : BitVec 1 := Scalar.cmpi .ne v275 c0_i32_161
  v276

def k0_off110 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev96 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v277 : BitVec 32 := Scalar.extui v212
  let c0_i32_162 : BitVec 32 := 0#32
  let v278 : BitVec 1 := Scalar.cmpi .ne v277 c0_i32_162
  v278

def k0_off111 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_dev97 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v207 : BitVec 32 := Scalar.addi v5 c1_i32_121
  let c2_i32_122 : BitVec 32 := 2#32
  let v208 : BitVec 32 := Scalar.addi v207 c2_i32_122
  let c3_i32_123 : BitVec 32 := 3#32
  let v209 : BitVec 1 := Scalar.cmpi .sle v208 c3_i32_123
  let v279 : BitVec 32 := Scalar.extui v209
  let c0_i32_163 : BitVec 32 := 0#32
  let v280 : BitVec 1 := Scalar.cmpi .ne v279 c0_i32_163
  v280

def k0_off112 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_127 : BitVec 32 := 1#32
  let v213 : BitVec 32 := Scalar.addi v5 c1_i32_127
  let c2_i32_128 : BitVec 32 := 2#32
  let v214 : BitVec 32 := Scalar.addi v213 c2_i32_128
  let c3_i32_129 : BitVec 32 := 3#32
  let v215 : BitVec 32 := Scalar.minsi v214 c3_i32_129
  let c2048_i32_323 : BitVec 32 := 2048#32
  let v543 : BitVec 32 := Scalar.muli v215 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev98 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_124 : BitVec 32 := 1#32
  let v210 : BitVec 32 := Scalar.subi v5 c1_i32_124
  let c2_i32_125 : BitVec 32 := 2#32
  let v211 : BitVec 32 := Scalar.subi v210 c2_i32_125
  let c0_i32_126 : BitVec 32 := 0#32
  let v212 : BitVec 1 := Scalar.cmpi .sge v211 c0_i32_126
  let v281 : BitVec 32 := Scalar.extui v212
  let c0_i32_164 : BitVec 32 := 0#32
  let v282 : BitVec 1 := Scalar.cmpi .ne v281 c0_i32_164
  v282

def k0_off113 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v216 : BitVec 32 := Scalar.subi v5 c1_i32_130
  let c2_i32_131 : BitVec 32 := 2#32
  let v217 : BitVec 32 := Scalar.subi v216 c2_i32_131
  let c0_i32_132 : BitVec 32 := 0#32
  let v218 : BitVec 32 := Scalar.maxsi v217 c0_i32_132
  let c2048_i32_323 : BitVec 32 := 2048#32
  let v543 : BitVec 32 := Scalar.muli v218 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_dev99 (d0 : Dev nD) : Nat :=
  let c0_i32_341 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_340 : BitVec 32 := 16#32
  let v561 : BitVec 32 := Scalar.muli v11 c16_i32_340
  let v562 : BitVec 32 := Scalar.addi c0_i32_341 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v563 : BitVec 32 := Scalar.muli v5 c4_i32_342
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v565 : BitVec 32 := Scalar.muli v8 c1_i32_343
  let v566 : BitVec 32 := Scalar.addi v564 v565
  v566.toNat
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v306 : BitVec 32 := Scalar.extui v286
  let c0_i32_186 : BitVec 32 := 0#32
  let v307 : BitVec 1 := Scalar.cmpi .ne v306 c0_i32_186
  v307

def k0_off114 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_off115 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_335 : BitVec 32 := 2048#32
  let v557 : BitVec 32 := Scalar.muli v298 c2048_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_336 : BitVec 32 := 1024#32
  let v558 : BitVec 32 := Scalar.muli v2 c1024_i32_336
  let v559 : BitVec 32 := Scalar.addi v557 v558
  let c0_i32_337 : BitVec 32 := 0#32
  let v560 : BitVec 32 := Scalar.addi v559 c0_i32_337
  let c0_i32_343 : BitVec 32 := 0#32
  ![v560.toNat, 0]
def k0_cond102 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v308 : BitVec 32 := Scalar.extui v289
  let c0_i32_187 : BitVec 32 := 0#32
  let v309 : BitVec 1 := Scalar.cmpi .ne v308 c0_i32_187
  v309

def k0_off116 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_off117 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_335 : BitVec 32 := 2048#32
  let v557 : BitVec 32 := Scalar.muli v301 c2048_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_336 : BitVec 32 := 1024#32
  let v558 : BitVec 32 := Scalar.muli v2 c1024_i32_336
  let v559 : BitVec 32 := Scalar.addi v557 v558
  let c0_i32_337 : BitVec 32 := 0#32
  let v560 : BitVec 32 := Scalar.addi v559 c0_i32_337
  let c0_i32_343 : BitVec 32 := 0#32
  ![v560.toNat, 0]
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v310 : BitVec 32 := Scalar.extui v292
  let c0_i32_188 : BitVec 32 := 0#32
  let v311 : BitVec 1 := Scalar.cmpi .ne v310 c0_i32_188
  v311

def k0_off118 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_325 : BitVec 32 := 1024#32
  let v547 : BitVec 32 := Scalar.muli v2 c1024_i32_325
  let c0_i32_326 : BitVec 32 := 0#32
  let v548 : BitVec 32 := Scalar.addi v547 c0_i32_326
  let c0_i32_332 : BitVec 32 := 0#32
  ![v548.toNat, 0]
def k0_off119 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_cond104 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v312 : BitVec 32 := Scalar.extui v295
  let c0_i32_189 : BitVec 32 := 0#32
  let v313 : BitVec 1 := Scalar.cmpi .ne v312 c0_i32_189
  v313

def k0_off120 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_325 : BitVec 32 := 1024#32
  let v547 : BitVec 32 := Scalar.muli v2 c1024_i32_325
  let c0_i32_326 : BitVec 32 := 0#32
  let v548 : BitVec 32 := Scalar.addi v547 c0_i32_326
  let c0_i32_332 : BitVec 32 := 0#32
  ![v548.toNat, 0]
def k0_off121 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v314 : BitVec 32 := Scalar.extui v286
  let c0_i32_190 : BitVec 32 := 0#32
  let v315 : BitVec 1 := Scalar.cmpi .ne v314 c0_i32_190
  v315

def k0_off122 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_off123 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_334 : BitVec 32 := 2048#32
  let v557 : BitVec 32 := Scalar.muli v298 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c128_i32_336 : BitVec 32 := 128#32
  let v560 : BitVec 32 := Scalar.addi v559 c128_i32_336
  let c0_i32_342 : BitVec 32 := 0#32
  ![v560.toNat, 0]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v316 : BitVec 32 := Scalar.extui v289
  let c0_i32_191 : BitVec 32 := 0#32
  let v317 : BitVec 1 := Scalar.cmpi .ne v316 c0_i32_191
  v317

def k0_off124 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_off125 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_334 : BitVec 32 := 2048#32
  let v557 : BitVec 32 := Scalar.muli v301 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c128_i32_336 : BitVec 32 := 128#32
  let v560 : BitVec 32 := Scalar.addi v559 c128_i32_336
  let c0_i32_342 : BitVec 32 := 0#32
  ![v560.toNat, 0]
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v318 : BitVec 32 := Scalar.extui v292
  let c0_i32_192 : BitVec 32 := 0#32
  let v319 : BitVec 1 := Scalar.cmpi .ne v318 c0_i32_192
  v319

def k0_off126 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c128_i32_325 : BitVec 32 := 128#32
  let v548 : BitVec 32 := Scalar.addi v547 c128_i32_325
  let c0_i32_331 : BitVec 32 := 0#32
  ![v548.toNat, 0]
def k0_off127 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_cond108 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v320 : BitVec 32 := Scalar.extui v295
  let c0_i32_193 : BitVec 32 := 0#32
  let v321 : BitVec 1 := Scalar.cmpi .ne v320 c0_i32_193
  v321

def k0_off128 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c128_i32_325 : BitVec 32 := 128#32
  let v548 : BitVec 32 := Scalar.addi v547 c128_i32_325
  let c0_i32_331 : BitVec 32 := 0#32
  ![v548.toNat, 0]
def k0_off129 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v322 : BitVec 32 := Scalar.extui v286
  let c0_i32_194 : BitVec 32 := 0#32
  let v323 : BitVec 1 := Scalar.cmpi .ne v322 c0_i32_194
  v323

def k0_off130 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_off131 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_334 : BitVec 32 := 2048#32
  let v557 : BitVec 32 := Scalar.muli v298 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c256_i32_336 : BitVec 32 := 256#32
  let v560 : BitVec 32 := Scalar.addi v559 c256_i32_336
  let c0_i32_342 : BitVec 32 := 0#32
  ![v560.toNat, 0]
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v324 : BitVec 32 := Scalar.extui v289
  let c0_i32_195 : BitVec 32 := 0#32
  let v325 : BitVec 1 := Scalar.cmpi .ne v324 c0_i32_195
  v325

def k0_off132 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_off133 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_334 : BitVec 32 := 2048#32
  let v557 : BitVec 32 := Scalar.muli v301 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c256_i32_336 : BitVec 32 := 256#32
  let v560 : BitVec 32 := Scalar.addi v559 c256_i32_336
  let c0_i32_342 : BitVec 32 := 0#32
  ![v560.toNat, 0]
def k0_cond111 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v326 : BitVec 32 := Scalar.extui v292
  let c0_i32_196 : BitVec 32 := 0#32
  let v327 : BitVec 1 := Scalar.cmpi .ne v326 c0_i32_196
  v327

def k0_off134 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c256_i32_325 : BitVec 32 := 256#32
  let v548 : BitVec 32 := Scalar.addi v547 c256_i32_325
  let c0_i32_331 : BitVec 32 := 0#32
  ![v548.toNat, 0]
def k0_off135 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_cond112 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v328 : BitVec 32 := Scalar.extui v295
  let c0_i32_197 : BitVec 32 := 0#32
  let v329 : BitVec 1 := Scalar.cmpi .ne v328 c0_i32_197
  v329

def k0_off136 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c256_i32_325 : BitVec 32 := 256#32
  let v548 : BitVec 32 := Scalar.addi v547 c256_i32_325
  let c0_i32_331 : BitVec 32 := 0#32
  ![v548.toNat, 0]
def k0_off137 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_cond113 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v330 : BitVec 32 := Scalar.extui v286
  let c0_i32_198 : BitVec 32 := 0#32
  let v331 : BitVec 1 := Scalar.cmpi .ne v330 c0_i32_198
  v331

def k0_off138 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_off139 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_334 : BitVec 32 := 2048#32
  let v557 : BitVec 32 := Scalar.muli v298 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c384_i32_336 : BitVec 32 := 384#32
  let v560 : BitVec 32 := Scalar.addi v559 c384_i32_336
  let c0_i32_342 : BitVec 32 := 0#32
  ![v560.toNat, 0]
def k0_cond114 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v332 : BitVec 32 := Scalar.extui v289
  let c0_i32_199 : BitVec 32 := 0#32
  let v333 : BitVec 1 := Scalar.cmpi .ne v332 c0_i32_199
  v333

def k0_off140 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_off141 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_334 : BitVec 32 := 2048#32
  let v557 : BitVec 32 := Scalar.muli v301 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c384_i32_336 : BitVec 32 := 384#32
  let v560 : BitVec 32 := Scalar.addi v559 c384_i32_336
  let c0_i32_342 : BitVec 32 := 0#32
  ![v560.toNat, 0]
def k0_cond115 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v334 : BitVec 32 := Scalar.extui v292
  let c0_i32_200 : BitVec 32 := 0#32
  let v335 : BitVec 1 := Scalar.cmpi .ne v334 c0_i32_200
  v335

def k0_off142 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c384_i32_325 : BitVec 32 := 384#32
  let v548 : BitVec 32 := Scalar.addi v547 c384_i32_325
  let c0_i32_331 : BitVec 32 := 0#32
  ![v548.toNat, 0]
def k0_off143 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_cond116 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v336 : BitVec 32 := Scalar.extui v295
  let c0_i32_201 : BitVec 32 := 0#32
  let v337 : BitVec 1 := Scalar.cmpi .ne v336 c0_i32_201
  v337

def k0_off144 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c384_i32_325 : BitVec 32 := 384#32
  let v548 : BitVec 32 := Scalar.addi v547 c384_i32_325
  let c0_i32_331 : BitVec 32 := 0#32
  ![v548.toNat, 0]
def k0_off145 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v338 : BitVec 32 := Scalar.extui v286
  let c0_i32_202 : BitVec 32 := 0#32
  let v339 : BitVec 1 := Scalar.cmpi .ne v338 c0_i32_202
  v339

def k0_off146 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_off147 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_334 : BitVec 32 := 2048#32
  let v557 : BitVec 32 := Scalar.muli v298 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c512_i32_336 : BitVec 32 := 512#32
  let v560 : BitVec 32 := Scalar.addi v559 c512_i32_336
  let c0_i32_342 : BitVec 32 := 0#32
  ![v560.toNat, 0]
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v340 : BitVec 32 := Scalar.extui v289
  let c0_i32_203 : BitVec 32 := 0#32
  let v341 : BitVec 1 := Scalar.cmpi .ne v340 c0_i32_203
  v341

def k0_off148 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_off149 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_334 : BitVec 32 := 2048#32
  let v557 : BitVec 32 := Scalar.muli v301 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c512_i32_336 : BitVec 32 := 512#32
  let v560 : BitVec 32 := Scalar.addi v559 c512_i32_336
  let c0_i32_342 : BitVec 32 := 0#32
  ![v560.toNat, 0]
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v342 : BitVec 32 := Scalar.extui v292
  let c0_i32_204 : BitVec 32 := 0#32
  let v343 : BitVec 1 := Scalar.cmpi .ne v342 c0_i32_204
  v343

def k0_off150 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c512_i32_325 : BitVec 32 := 512#32
  let v548 : BitVec 32 := Scalar.addi v547 c512_i32_325
  let c0_i32_331 : BitVec 32 := 0#32
  ![v548.toNat, 0]
def k0_off151 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v344 : BitVec 32 := Scalar.extui v295
  let c0_i32_205 : BitVec 32 := 0#32
  let v345 : BitVec 1 := Scalar.cmpi .ne v344 c0_i32_205
  v345

def k0_off152 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c512_i32_325 : BitVec 32 := 512#32
  let v548 : BitVec 32 := Scalar.addi v547 c512_i32_325
  let c0_i32_331 : BitVec 32 := 0#32
  ![v548.toNat, 0]
def k0_off153 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_cond121 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v346 : BitVec 32 := Scalar.extui v286
  let c0_i32_206 : BitVec 32 := 0#32
  let v347 : BitVec 1 := Scalar.cmpi .ne v346 c0_i32_206
  v347

def k0_off154 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_off155 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_333 : BitVec 32 := 2048#32
  let v557 : BitVec 32 := Scalar.muli v298 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c640_i32_335 : BitVec 32 := 640#32
  let v560 : BitVec 32 := Scalar.addi v559 c640_i32_335
  let c0_i32_341 : BitVec 32 := 0#32
  ![v560.toNat, 0]
def k0_cond122 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v348 : BitVec 32 := Scalar.extui v289
  let c0_i32_207 : BitVec 32 := 0#32
  let v349 : BitVec 1 := Scalar.cmpi .ne v348 c0_i32_207
  v349

def k0_off156 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_off157 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_333 : BitVec 32 := 2048#32
  let v557 : BitVec 32 := Scalar.muli v301 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c640_i32_335 : BitVec 32 := 640#32
  let v560 : BitVec 32 := Scalar.addi v559 c640_i32_335
  let c0_i32_341 : BitVec 32 := 0#32
  ![v560.toNat, 0]
def k0_cond123 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v350 : BitVec 32 := Scalar.extui v292
  let c0_i32_208 : BitVec 32 := 0#32
  let v351 : BitVec 1 := Scalar.cmpi .ne v350 c0_i32_208
  v351

def k0_off158 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c640_i32_325 : BitVec 32 := 640#32
  let v548 : BitVec 32 := Scalar.addi v547 c640_i32_325
  let c0_i32_330 : BitVec 32 := 0#32
  ![v548.toNat, 0]
def k0_off159 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_cond124 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v352 : BitVec 32 := Scalar.extui v295
  let c0_i32_209 : BitVec 32 := 0#32
  let v353 : BitVec 1 := Scalar.cmpi .ne v352 c0_i32_209
  v353

def k0_off160 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c640_i32_325 : BitVec 32 := 640#32
  let v548 : BitVec 32 := Scalar.addi v547 c640_i32_325
  let c0_i32_330 : BitVec 32 := 0#32
  ![v548.toNat, 0]
def k0_off161 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_cond125 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v354 : BitVec 32 := Scalar.extui v286
  let c0_i32_210 : BitVec 32 := 0#32
  let v355 : BitVec 1 := Scalar.cmpi .ne v354 c0_i32_210
  v355

def k0_off162 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_off163 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_333 : BitVec 32 := 2048#32
  let v557 : BitVec 32 := Scalar.muli v298 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c768_i32_335 : BitVec 32 := 768#32
  let v560 : BitVec 32 := Scalar.addi v559 c768_i32_335
  let c0_i32_341 : BitVec 32 := 0#32
  ![v560.toNat, 0]
def k0_cond126 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v356 : BitVec 32 := Scalar.extui v289
  let c0_i32_211 : BitVec 32 := 0#32
  let v357 : BitVec 1 := Scalar.cmpi .ne v356 c0_i32_211
  v357

def k0_off164 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_off165 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_333 : BitVec 32 := 2048#32
  let v557 : BitVec 32 := Scalar.muli v301 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c768_i32_335 : BitVec 32 := 768#32
  let v560 : BitVec 32 := Scalar.addi v559 c768_i32_335
  let c0_i32_341 : BitVec 32 := 0#32
  ![v560.toNat, 0]
def k0_cond127 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v358 : BitVec 32 := Scalar.extui v292
  let c0_i32_212 : BitVec 32 := 0#32
  let v359 : BitVec 1 := Scalar.cmpi .ne v358 c0_i32_212
  v359

def k0_off166 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c768_i32_325 : BitVec 32 := 768#32
  let v548 : BitVec 32 := Scalar.addi v547 c768_i32_325
  let c0_i32_330 : BitVec 32 := 0#32
  ![v548.toNat, 0]
def k0_off167 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_cond128 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v360 : BitVec 32 := Scalar.extui v295
  let c0_i32_213 : BitVec 32 := 0#32
  let v361 : BitVec 1 := Scalar.cmpi .ne v360 c0_i32_213
  v361

def k0_off168 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c768_i32_325 : BitVec 32 := 768#32
  let v548 : BitVec 32 := Scalar.addi v547 c768_i32_325
  let c0_i32_330 : BitVec 32 := 0#32
  ![v548.toNat, 0]
def k0_off169 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_cond129 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_166 : BitVec 32 := 1#32
  let v284 : BitVec 32 := Scalar.addi v5 c1_i32_166
  let c0_i32_167 : BitVec 32 := 0#32
  let v285 : BitVec 32 := Scalar.addi v284 c0_i32_167
  let c3_i32_168 : BitVec 32 := 3#32
  let v286 : BitVec 1 := Scalar.cmpi .sle v285 c3_i32_168
  let v362 : BitVec 32 := Scalar.extui v286
  let c0_i32_214 : BitVec 32 := 0#32
  let v363 : BitVec 1 := Scalar.cmpi .ne v362 c0_i32_214
  v363

def k0_off170 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_323 : BitVec 32 := 2048#32
  let v543 : BitVec 32 := Scalar.muli v298 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_off171 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_176 : BitVec 32 := 1#32
  let v296 : BitVec 32 := Scalar.addi v5 c1_i32_176
  let c0_i32_177 : BitVec 32 := 0#32
  let v297 : BitVec 32 := Scalar.addi v296 c0_i32_177
  let c3_i32_178 : BitVec 32 := 3#32
  let v298 : BitVec 32 := Scalar.minsi v297 c3_i32_178
  let c2048_i32_333 : BitVec 32 := 2048#32
  let v557 : BitVec 32 := Scalar.muli v298 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c896_i32_335 : BitVec 32 := 896#32
  let v560 : BitVec 32 := Scalar.addi v559 c896_i32_335
  let c0_i32_341 : BitVec 32 := 0#32
  ![v560.toNat, 0]
def k0_cond130 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v287 : BitVec 32 := Scalar.subi v5 c1_i32_169
  let c0_i32_170 : BitVec 32 := 0#32
  let v288 : BitVec 32 := Scalar.subi v287 c0_i32_170
  let c0_i32_171 : BitVec 32 := 0#32
  let v289 : BitVec 1 := Scalar.cmpi .sge v288 c0_i32_171
  let v364 : BitVec 32 := Scalar.extui v289
  let c0_i32_215 : BitVec 32 := 0#32
  let v365 : BitVec 1 := Scalar.cmpi .ne v364 c0_i32_215
  v365

def k0_off172 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_323 : BitVec 32 := 2048#32
  let v543 : BitVec 32 := Scalar.muli v301 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_off173 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_179 : BitVec 32 := 1#32
  let v299 : BitVec 32 := Scalar.subi v5 c1_i32_179
  let c0_i32_180 : BitVec 32 := 0#32
  let v300 : BitVec 32 := Scalar.subi v299 c0_i32_180
  let c0_i32_181 : BitVec 32 := 0#32
  let v301 : BitVec 32 := Scalar.maxsi v300 c0_i32_181
  let c2048_i32_333 : BitVec 32 := 2048#32
  let v557 : BitVec 32 := Scalar.muli v301 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c896_i32_335 : BitVec 32 := 896#32
  let v560 : BitVec 32 := Scalar.addi v559 c896_i32_335
  let c0_i32_341 : BitVec 32 := 0#32
  ![v560.toNat, 0]
def k0_cond131 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c0_i32_172 : BitVec 32 := 0#32
  let v290 : BitVec 32 := Scalar.addi v5 c0_i32_172
  let c3_i32_173 : BitVec 32 := 3#32
  let v291 : BitVec 1 := Scalar.cmpi .sle v290 c3_i32_173
  let v292 : BitVec 1 := Scalar.andi v9 v291
  let v366 : BitVec 32 := Scalar.extui v292
  let c0_i32_216 : BitVec 32 := 0#32
  let v367 : BitVec 1 := Scalar.cmpi .ne v366 c0_i32_216
  v367

def k0_off174 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c896_i32_325 : BitVec 32 := 896#32
  let v548 : BitVec 32 := Scalar.addi v547 c896_i32_325
  let c0_i32_330 : BitVec 32 := 0#32
  ![v548.toNat, 0]
def k0_off175 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_182 : BitVec 32 := 0#32
  let v302 : BitVec 32 := Scalar.addi v5 c0_i32_182
  let c3_i32_183 : BitVec 32 := 3#32
  let v303 : BitVec 32 := Scalar.minsi v302 c3_i32_183
  let c2048_i32_323 : BitVec 32 := 2048#32
  let v543 : BitVec 32 := Scalar.muli v303 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_cond132 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c0_i32_174 : BitVec 32 := 0#32
  let v293 : BitVec 32 := Scalar.subi v5 c0_i32_174
  let c0_i32_175 : BitVec 32 := 0#32
  let v294 : BitVec 1 := Scalar.cmpi .sge v293 c0_i32_175
  let v295 : BitVec 1 := Scalar.andi v10 v294
  let v368 : BitVec 32 := Scalar.extui v295
  let c0_i32_217 : BitVec 32 := 0#32
  let v369 : BitVec 1 := Scalar.cmpi .ne v368 c0_i32_217
  v369

def k0_off176 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_324 : BitVec 32 := 1024#32
  let v547 : BitVec 32 := Scalar.muli v2 c1024_i32_324
  let c896_i32_325 : BitVec 32 := 896#32
  let v548 : BitVec 32 := Scalar.addi v547 c896_i32_325
  let c0_i32_330 : BitVec 32 := 0#32
  ![v548.toNat, 0]
def k0_off177 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_184 : BitVec 32 := 0#32
  let v304 : BitVec 32 := Scalar.subi v5 c0_i32_184
  let c0_i32_185 : BitVec 32 := 0#32
  let v305 : BitVec 32 := Scalar.maxsi v304 c0_i32_185
  let c2048_i32_323 : BitVec 32 := 2048#32
  let v543 : BitVec 32 := Scalar.muli v305 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_cond133 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v392 : BitVec 32 := Scalar.extui v372
  let c0_i32_238 : BitVec 32 := 0#32
  let v393 : BitVec 1 := Scalar.cmpi .ne v392 c0_i32_238
  v393

def k0_off178 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_off179 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_335 : BitVec 32 := 2048#32
  let v557 : BitVec 32 := Scalar.muli v384 c2048_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_336 : BitVec 32 := 1024#32
  let v558 : BitVec 32 := Scalar.muli v2 c1024_i32_336
  let v559 : BitVec 32 := Scalar.addi v557 v558
  let c0_i32_337 : BitVec 32 := 0#32
  let v560 : BitVec 32 := Scalar.addi v559 c0_i32_337
  let c0_i32_343 : BitVec 32 := 0#32
  ![v560.toNat, 0]
def k0_cond134 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v394 : BitVec 32 := Scalar.extui v375
  let c0_i32_239 : BitVec 32 := 0#32
  let v395 : BitVec 1 := Scalar.cmpi .ne v394 c0_i32_239
  v395

def k0_off180 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_off181 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_335 : BitVec 32 := 2048#32
  let v557 : BitVec 32 := Scalar.muli v387 c2048_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_336 : BitVec 32 := 1024#32
  let v558 : BitVec 32 := Scalar.muli v2 c1024_i32_336
  let v559 : BitVec 32 := Scalar.addi v557 v558
  let c0_i32_337 : BitVec 32 := 0#32
  let v560 : BitVec 32 := Scalar.addi v559 c0_i32_337
  let c0_i32_343 : BitVec 32 := 0#32
  ![v560.toNat, 0]
def k0_cond135 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v396 : BitVec 32 := Scalar.extui v378
  let c0_i32_240 : BitVec 32 := 0#32
  let v397 : BitVec 1 := Scalar.cmpi .ne v396 c0_i32_240
  v397

def k0_off182 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_330 : BitVec 32 := 0#32
  ![v546.toNat, 0]
def k0_cond136 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v398 : BitVec 32 := Scalar.extui v381
  let c0_i32_241 : BitVec 32 := 0#32
  let v399 : BitVec 1 := Scalar.cmpi .ne v398 c0_i32_241
  v399

def k0_off183 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_330 : BitVec 32 := 0#32
  ![v546.toNat, 0]
def k0_cond137 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v400 : BitVec 32 := Scalar.extui v372
  let c0_i32_242 : BitVec 32 := 0#32
  let v401 : BitVec 1 := Scalar.cmpi .ne v400 c0_i32_242
  v401

def k0_off184 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_off185 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_334 : BitVec 32 := 2048#32
  let v557 : BitVec 32 := Scalar.muli v384 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c128_i32_336 : BitVec 32 := 128#32
  let v560 : BitVec 32 := Scalar.addi v559 c128_i32_336
  let c0_i32_342 : BitVec 32 := 0#32
  ![v560.toNat, 0]
def k0_cond138 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v402 : BitVec 32 := Scalar.extui v375
  let c0_i32_243 : BitVec 32 := 0#32
  let v403 : BitVec 1 := Scalar.cmpi .ne v402 c0_i32_243
  v403

def k0_off186 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_off187 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_334 : BitVec 32 := 2048#32
  let v557 : BitVec 32 := Scalar.muli v387 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c128_i32_336 : BitVec 32 := 128#32
  let v560 : BitVec 32 := Scalar.addi v559 c128_i32_336
  let c0_i32_342 : BitVec 32 := 0#32
  ![v560.toNat, 0]
def k0_cond139 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v404 : BitVec 32 := Scalar.extui v378
  let c0_i32_244 : BitVec 32 := 0#32
  let v405 : BitVec 1 := Scalar.cmpi .ne v404 c0_i32_244
  v405

def k0_off188 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_329 : BitVec 32 := 0#32
  ![v546.toNat, 0]
def k0_cond140 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v406 : BitVec 32 := Scalar.extui v381
  let c0_i32_245 : BitVec 32 := 0#32
  let v407 : BitVec 1 := Scalar.cmpi .ne v406 c0_i32_245
  v407

def k0_off189 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_329 : BitVec 32 := 0#32
  ![v546.toNat, 0]
def k0_cond141 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v408 : BitVec 32 := Scalar.extui v372
  let c0_i32_246 : BitVec 32 := 0#32
  let v409 : BitVec 1 := Scalar.cmpi .ne v408 c0_i32_246
  v409

def k0_off190 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_off191 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_334 : BitVec 32 := 2048#32
  let v557 : BitVec 32 := Scalar.muli v384 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c256_i32_336 : BitVec 32 := 256#32
  let v560 : BitVec 32 := Scalar.addi v559 c256_i32_336
  let c0_i32_342 : BitVec 32 := 0#32
  ![v560.toNat, 0]
def k0_cond142 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v410 : BitVec 32 := Scalar.extui v375
  let c0_i32_247 : BitVec 32 := 0#32
  let v411 : BitVec 1 := Scalar.cmpi .ne v410 c0_i32_247
  v411

def k0_off192 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_off193 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_334 : BitVec 32 := 2048#32
  let v557 : BitVec 32 := Scalar.muli v387 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c256_i32_336 : BitVec 32 := 256#32
  let v560 : BitVec 32 := Scalar.addi v559 c256_i32_336
  let c0_i32_342 : BitVec 32 := 0#32
  ![v560.toNat, 0]
def k0_cond143 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v412 : BitVec 32 := Scalar.extui v378
  let c0_i32_248 : BitVec 32 := 0#32
  let v413 : BitVec 1 := Scalar.cmpi .ne v412 c0_i32_248
  v413

def k0_off194 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_329 : BitVec 32 := 0#32
  ![v546.toNat, 0]
def k0_cond144 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v414 : BitVec 32 := Scalar.extui v381
  let c0_i32_249 : BitVec 32 := 0#32
  let v415 : BitVec 1 := Scalar.cmpi .ne v414 c0_i32_249
  v415

def k0_off195 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_329 : BitVec 32 := 0#32
  ![v546.toNat, 0]
def k0_cond145 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v416 : BitVec 32 := Scalar.extui v372
  let c0_i32_250 : BitVec 32 := 0#32
  let v417 : BitVec 1 := Scalar.cmpi .ne v416 c0_i32_250
  v417

def k0_off196 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_off197 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_334 : BitVec 32 := 2048#32
  let v557 : BitVec 32 := Scalar.muli v384 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c384_i32_336 : BitVec 32 := 384#32
  let v560 : BitVec 32 := Scalar.addi v559 c384_i32_336
  let c0_i32_342 : BitVec 32 := 0#32
  ![v560.toNat, 0]
def k0_cond146 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v418 : BitVec 32 := Scalar.extui v375
  let c0_i32_251 : BitVec 32 := 0#32
  let v419 : BitVec 1 := Scalar.cmpi .ne v418 c0_i32_251
  v419

def k0_off198 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_off199 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_334 : BitVec 32 := 2048#32
  let v557 : BitVec 32 := Scalar.muli v387 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c384_i32_336 : BitVec 32 := 384#32
  let v560 : BitVec 32 := Scalar.addi v559 c384_i32_336
  let c0_i32_342 : BitVec 32 := 0#32
  ![v560.toNat, 0]
def k0_cond147 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v420 : BitVec 32 := Scalar.extui v378
  let c0_i32_252 : BitVec 32 := 0#32
  let v421 : BitVec 1 := Scalar.cmpi .ne v420 c0_i32_252
  v421

def k0_off200 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_329 : BitVec 32 := 0#32
  ![v546.toNat, 0]
def k0_cond148 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v422 : BitVec 32 := Scalar.extui v381
  let c0_i32_253 : BitVec 32 := 0#32
  let v423 : BitVec 1 := Scalar.cmpi .ne v422 c0_i32_253
  v423

def k0_off201 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_329 : BitVec 32 := 0#32
  ![v546.toNat, 0]
def k0_cond149 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v424 : BitVec 32 := Scalar.extui v372
  let c0_i32_254 : BitVec 32 := 0#32
  let v425 : BitVec 1 := Scalar.cmpi .ne v424 c0_i32_254
  v425

def k0_off202 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_off203 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_334 : BitVec 32 := 2048#32
  let v557 : BitVec 32 := Scalar.muli v384 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c512_i32_336 : BitVec 32 := 512#32
  let v560 : BitVec 32 := Scalar.addi v559 c512_i32_336
  let c0_i32_342 : BitVec 32 := 0#32
  ![v560.toNat, 0]
def k0_cond150 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v426 : BitVec 32 := Scalar.extui v375
  let c0_i32_255 : BitVec 32 := 0#32
  let v427 : BitVec 1 := Scalar.cmpi .ne v426 c0_i32_255
  v427

def k0_off204 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_off205 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_334 : BitVec 32 := 2048#32
  let v557 : BitVec 32 := Scalar.muli v387 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c512_i32_336 : BitVec 32 := 512#32
  let v560 : BitVec 32 := Scalar.addi v559 c512_i32_336
  let c0_i32_342 : BitVec 32 := 0#32
  ![v560.toNat, 0]
def k0_cond151 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v428 : BitVec 32 := Scalar.extui v378
  let c0_i32_256 : BitVec 32 := 0#32
  let v429 : BitVec 1 := Scalar.cmpi .ne v428 c0_i32_256
  v429

def k0_off206 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_329 : BitVec 32 := 0#32
  ![v546.toNat, 0]
def k0_cond152 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v430 : BitVec 32 := Scalar.extui v381
  let c0_i32_257 : BitVec 32 := 0#32
  let v431 : BitVec 1 := Scalar.cmpi .ne v430 c0_i32_257
  v431

def k0_off207 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_329 : BitVec 32 := 0#32
  ![v546.toNat, 0]
def k0_cond153 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v432 : BitVec 32 := Scalar.extui v372
  let c0_i32_258 : BitVec 32 := 0#32
  let v433 : BitVec 1 := Scalar.cmpi .ne v432 c0_i32_258
  v433

def k0_off208 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_off209 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_333 : BitVec 32 := 2048#32
  let v557 : BitVec 32 := Scalar.muli v384 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c640_i32_335 : BitVec 32 := 640#32
  let v560 : BitVec 32 := Scalar.addi v559 c640_i32_335
  let c0_i32_341 : BitVec 32 := 0#32
  ![v560.toNat, 0]
def k0_cond154 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v434 : BitVec 32 := Scalar.extui v375
  let c0_i32_259 : BitVec 32 := 0#32
  let v435 : BitVec 1 := Scalar.cmpi .ne v434 c0_i32_259
  v435

def k0_off210 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_off211 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_333 : BitVec 32 := 2048#32
  let v557 : BitVec 32 := Scalar.muli v387 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c640_i32_335 : BitVec 32 := 640#32
  let v560 : BitVec 32 := Scalar.addi v559 c640_i32_335
  let c0_i32_341 : BitVec 32 := 0#32
  ![v560.toNat, 0]
def k0_cond155 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v436 : BitVec 32 := Scalar.extui v378
  let c0_i32_260 : BitVec 32 := 0#32
  let v437 : BitVec 1 := Scalar.cmpi .ne v436 c0_i32_260
  v437

def k0_off212 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_328 : BitVec 32 := 0#32
  ![v546.toNat, 0]
def k0_cond156 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v438 : BitVec 32 := Scalar.extui v381
  let c0_i32_261 : BitVec 32 := 0#32
  let v439 : BitVec 1 := Scalar.cmpi .ne v438 c0_i32_261
  v439

def k0_off213 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_328 : BitVec 32 := 0#32
  ![v546.toNat, 0]
def k0_cond157 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v440 : BitVec 32 := Scalar.extui v372
  let c0_i32_262 : BitVec 32 := 0#32
  let v441 : BitVec 1 := Scalar.cmpi .ne v440 c0_i32_262
  v441

def k0_off214 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_off215 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_333 : BitVec 32 := 2048#32
  let v557 : BitVec 32 := Scalar.muli v384 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c768_i32_335 : BitVec 32 := 768#32
  let v560 : BitVec 32 := Scalar.addi v559 c768_i32_335
  let c0_i32_341 : BitVec 32 := 0#32
  ![v560.toNat, 0]
def k0_cond158 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v442 : BitVec 32 := Scalar.extui v375
  let c0_i32_263 : BitVec 32 := 0#32
  let v443 : BitVec 1 := Scalar.cmpi .ne v442 c0_i32_263
  v443

def k0_off216 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_off217 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_333 : BitVec 32 := 2048#32
  let v557 : BitVec 32 := Scalar.muli v387 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c768_i32_335 : BitVec 32 := 768#32
  let v560 : BitVec 32 := Scalar.addi v559 c768_i32_335
  let c0_i32_341 : BitVec 32 := 0#32
  ![v560.toNat, 0]
def k0_cond159 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v444 : BitVec 32 := Scalar.extui v378
  let c0_i32_264 : BitVec 32 := 0#32
  let v445 : BitVec 1 := Scalar.cmpi .ne v444 c0_i32_264
  v445

def k0_off218 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_328 : BitVec 32 := 0#32
  ![v546.toNat, 0]
def k0_cond160 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v446 : BitVec 32 := Scalar.extui v381
  let c0_i32_265 : BitVec 32 := 0#32
  let v447 : BitVec 1 := Scalar.cmpi .ne v446 c0_i32_265
  v447

def k0_off219 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_328 : BitVec 32 := 0#32
  ![v546.toNat, 0]
def k0_cond161 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v370 : BitVec 32 := Scalar.addi v5 c1_i32_218
  let c1_i32_219 : BitVec 32 := 1#32
  let v371 : BitVec 32 := Scalar.addi v370 c1_i32_219
  let c3_i32_220 : BitVec 32 := 3#32
  let v372 : BitVec 1 := Scalar.cmpi .sle v371 c3_i32_220
  let v448 : BitVec 32 := Scalar.extui v372
  let c0_i32_266 : BitVec 32 := 0#32
  let v449 : BitVec 1 := Scalar.cmpi .ne v448 c0_i32_266
  v449

def k0_off220 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_323 : BitVec 32 := 2048#32
  let v543 : BitVec 32 := Scalar.muli v384 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_off221 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v382 : BitVec 32 := Scalar.addi v5 c1_i32_228
  let c1_i32_229 : BitVec 32 := 1#32
  let v383 : BitVec 32 := Scalar.addi v382 c1_i32_229
  let c3_i32_230 : BitVec 32 := 3#32
  let v384 : BitVec 32 := Scalar.minsi v383 c3_i32_230
  let c2048_i32_333 : BitVec 32 := 2048#32
  let v557 : BitVec 32 := Scalar.muli v384 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c896_i32_335 : BitVec 32 := 896#32
  let v560 : BitVec 32 := Scalar.addi v559 c896_i32_335
  let c0_i32_341 : BitVec 32 := 0#32
  ![v560.toNat, 0]
def k0_cond162 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_221 : BitVec 32 := 1#32
  let v373 : BitVec 32 := Scalar.subi v5 c1_i32_221
  let c1_i32_222 : BitVec 32 := 1#32
  let v374 : BitVec 32 := Scalar.subi v373 c1_i32_222
  let c0_i32_223 : BitVec 32 := 0#32
  let v375 : BitVec 1 := Scalar.cmpi .sge v374 c0_i32_223
  let v450 : BitVec 32 := Scalar.extui v375
  let c0_i32_267 : BitVec 32 := 0#32
  let v451 : BitVec 1 := Scalar.cmpi .ne v450 c0_i32_267
  v451

def k0_off222 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_323 : BitVec 32 := 2048#32
  let v543 : BitVec 32 := Scalar.muli v387 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_off223 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v385 : BitVec 32 := Scalar.subi v5 c1_i32_231
  let c1_i32_232 : BitVec 32 := 1#32
  let v386 : BitVec 32 := Scalar.subi v385 c1_i32_232
  let c0_i32_233 : BitVec 32 := 0#32
  let v387 : BitVec 32 := Scalar.maxsi v386 c0_i32_233
  let c2048_i32_333 : BitVec 32 := 2048#32
  let v557 : BitVec 32 := Scalar.muli v387 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c896_i32_335 : BitVec 32 := 896#32
  let v560 : BitVec 32 := Scalar.addi v559 c896_i32_335
  let c0_i32_341 : BitVec 32 := 0#32
  ![v560.toNat, 0]
def k0_cond163 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c1_i32_224 : BitVec 32 := 1#32
  let v376 : BitVec 32 := Scalar.addi v5 c1_i32_224
  let c3_i32_225 : BitVec 32 := 3#32
  let v377 : BitVec 1 := Scalar.cmpi .sle v376 c3_i32_225
  let v378 : BitVec 1 := Scalar.andi v9 v377
  let v452 : BitVec 32 := Scalar.extui v378
  let c0_i32_268 : BitVec 32 := 0#32
  let v453 : BitVec 1 := Scalar.cmpi .ne v452 c0_i32_268
  v453

def k0_off224 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v388 : BitVec 32 := Scalar.addi v5 c1_i32_234
  let c3_i32_235 : BitVec 32 := 3#32
  let v389 : BitVec 32 := Scalar.minsi v388 c3_i32_235
  let c2048_i32_323 : BitVec 32 := 2048#32
  let v543 : BitVec 32 := Scalar.muli v389 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_328 : BitVec 32 := 0#32
  ![v546.toNat, 0]
def k0_cond164 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c1_i32_226 : BitVec 32 := 1#32
  let v379 : BitVec 32 := Scalar.subi v5 c1_i32_226
  let c0_i32_227 : BitVec 32 := 0#32
  let v380 : BitVec 1 := Scalar.cmpi .sge v379 c0_i32_227
  let v381 : BitVec 1 := Scalar.andi v10 v380
  let v454 : BitVec 32 := Scalar.extui v381
  let c0_i32_269 : BitVec 32 := 0#32
  let v455 : BitVec 1 := Scalar.cmpi .ne v454 c0_i32_269
  v455

def k0_off225 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_236 : BitVec 32 := 1#32
  let v390 : BitVec 32 := Scalar.subi v5 c1_i32_236
  let c0_i32_237 : BitVec 32 := 0#32
  let v391 : BitVec 32 := Scalar.maxsi v390 c0_i32_237
  let c2048_i32_323 : BitVec 32 := 2048#32
  let v543 : BitVec 32 := Scalar.muli v391 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_328 : BitVec 32 := 0#32
  ![v546.toNat, 0]
def k0_cond165 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v478 : BitVec 32 := Scalar.extui v458
  let c0_i32_290 : BitVec 32 := 0#32
  let v479 : BitVec 1 := Scalar.cmpi .ne v478 c0_i32_290
  v479

def k0_off226 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_off227 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_335 : BitVec 32 := 2048#32
  let v557 : BitVec 32 := Scalar.muli v470 c2048_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_336 : BitVec 32 := 1024#32
  let v558 : BitVec 32 := Scalar.muli v2 c1024_i32_336
  let v559 : BitVec 32 := Scalar.addi v557 v558
  let c0_i32_337 : BitVec 32 := 0#32
  let v560 : BitVec 32 := Scalar.addi v559 c0_i32_337
  let c0_i32_343 : BitVec 32 := 0#32
  ![v560.toNat, 0]
def k0_cond166 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v480 : BitVec 32 := Scalar.extui v461
  let c0_i32_291 : BitVec 32 := 0#32
  let v481 : BitVec 1 := Scalar.cmpi .ne v480 c0_i32_291
  v481

def k0_off228 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c0_i32_324 : BitVec 32 := 0#32
  let v546 : BitVec 32 := Scalar.addi v545 c0_i32_324
  let c0_i32_333 : BitVec 32 := 0#32
  ![v546.toNat, 0]
def k0_off229 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_335 : BitVec 32 := 2048#32
  let v557 : BitVec 32 := Scalar.muli v473 c2048_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_336 : BitVec 32 := 1024#32
  let v558 : BitVec 32 := Scalar.muli v2 c1024_i32_336
  let v559 : BitVec 32 := Scalar.addi v557 v558
  let c0_i32_337 : BitVec 32 := 0#32
  let v560 : BitVec 32 := Scalar.addi v559 c0_i32_337
  let c0_i32_343 : BitVec 32 := 0#32
  ![v560.toNat, 0]
def k0_cond167 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v482 : BitVec 32 := Scalar.extui v464
  let c0_i32_292 : BitVec 32 := 0#32
  let v483 : BitVec 1 := Scalar.cmpi .ne v482 c0_i32_292
  v483

def k0_off230 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_330 : BitVec 32 := 0#32
  ![v546.toNat, 0]
def k0_cond168 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v484 : BitVec 32 := Scalar.extui v467
  let c0_i32_293 : BitVec 32 := 0#32
  let v485 : BitVec 1 := Scalar.cmpi .ne v484 c0_i32_293
  v485

def k0_off231 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c0_i32_324 : BitVec 32 := 0#32
  let v546 : BitVec 32 := Scalar.addi v545 c0_i32_324
  let c0_i32_330 : BitVec 32 := 0#32
  ![v546.toNat, 0]
def k0_cond169 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v486 : BitVec 32 := Scalar.extui v458
  let c0_i32_294 : BitVec 32 := 0#32
  let v487 : BitVec 1 := Scalar.cmpi .ne v486 c0_i32_294
  v487

def k0_off232 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_off233 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_334 : BitVec 32 := 2048#32
  let v557 : BitVec 32 := Scalar.muli v470 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c128_i32_336 : BitVec 32 := 128#32
  let v560 : BitVec 32 := Scalar.addi v559 c128_i32_336
  let c0_i32_342 : BitVec 32 := 0#32
  ![v560.toNat, 0]
def k0_cond170 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v488 : BitVec 32 := Scalar.extui v461
  let c0_i32_295 : BitVec 32 := 0#32
  let v489 : BitVec 1 := Scalar.cmpi .ne v488 c0_i32_295
  v489

def k0_off234 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c128_i32 : BitVec 32 := 128#32
  let v546 : BitVec 32 := Scalar.addi v545 c128_i32
  let c0_i32_332 : BitVec 32 := 0#32
  ![v546.toNat, 0]
def k0_off235 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_334 : BitVec 32 := 2048#32
  let v557 : BitVec 32 := Scalar.muli v473 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c128_i32_336 : BitVec 32 := 128#32
  let v560 : BitVec 32 := Scalar.addi v559 c128_i32_336
  let c0_i32_342 : BitVec 32 := 0#32
  ![v560.toNat, 0]
def k0_cond171 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v490 : BitVec 32 := Scalar.extui v464
  let c0_i32_296 : BitVec 32 := 0#32
  let v491 : BitVec 1 := Scalar.cmpi .ne v490 c0_i32_296
  v491

def k0_off236 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_329 : BitVec 32 := 0#32
  ![v546.toNat, 0]
def k0_cond172 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v492 : BitVec 32 := Scalar.extui v467
  let c0_i32_297 : BitVec 32 := 0#32
  let v493 : BitVec 1 := Scalar.cmpi .ne v492 c0_i32_297
  v493

def k0_off237 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c128_i32 : BitVec 32 := 128#32
  let v546 : BitVec 32 := Scalar.addi v545 c128_i32
  let c0_i32_329 : BitVec 32 := 0#32
  ![v546.toNat, 0]
def k0_cond173 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v494 : BitVec 32 := Scalar.extui v458
  let c0_i32_298 : BitVec 32 := 0#32
  let v495 : BitVec 1 := Scalar.cmpi .ne v494 c0_i32_298
  v495

def k0_off238 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_off239 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_334 : BitVec 32 := 2048#32
  let v557 : BitVec 32 := Scalar.muli v470 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c256_i32_336 : BitVec 32 := 256#32
  let v560 : BitVec 32 := Scalar.addi v559 c256_i32_336
  let c0_i32_342 : BitVec 32 := 0#32
  ![v560.toNat, 0]
def k0_cond174 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v496 : BitVec 32 := Scalar.extui v461
  let c0_i32_299 : BitVec 32 := 0#32
  let v497 : BitVec 1 := Scalar.cmpi .ne v496 c0_i32_299
  v497

def k0_off240 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c256_i32 : BitVec 32 := 256#32
  let v546 : BitVec 32 := Scalar.addi v545 c256_i32
  let c0_i32_332 : BitVec 32 := 0#32
  ![v546.toNat, 0]
def k0_off241 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_334 : BitVec 32 := 2048#32
  let v557 : BitVec 32 := Scalar.muli v473 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c256_i32_336 : BitVec 32 := 256#32
  let v560 : BitVec 32 := Scalar.addi v559 c256_i32_336
  let c0_i32_342 : BitVec 32 := 0#32
  ![v560.toNat, 0]
def k0_cond175 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v498 : BitVec 32 := Scalar.extui v464
  let c0_i32_300 : BitVec 32 := 0#32
  let v499 : BitVec 1 := Scalar.cmpi .ne v498 c0_i32_300
  v499

def k0_off242 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_329 : BitVec 32 := 0#32
  ![v546.toNat, 0]
def k0_cond176 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v500 : BitVec 32 := Scalar.extui v467
  let c0_i32_301 : BitVec 32 := 0#32
  let v501 : BitVec 1 := Scalar.cmpi .ne v500 c0_i32_301
  v501

def k0_off243 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c256_i32 : BitVec 32 := 256#32
  let v546 : BitVec 32 := Scalar.addi v545 c256_i32
  let c0_i32_329 : BitVec 32 := 0#32
  ![v546.toNat, 0]
def k0_cond177 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v502 : BitVec 32 := Scalar.extui v458
  let c0_i32_302 : BitVec 32 := 0#32
  let v503 : BitVec 1 := Scalar.cmpi .ne v502 c0_i32_302
  v503

def k0_off244 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_off245 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_334 : BitVec 32 := 2048#32
  let v557 : BitVec 32 := Scalar.muli v470 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c384_i32_336 : BitVec 32 := 384#32
  let v560 : BitVec 32 := Scalar.addi v559 c384_i32_336
  let c0_i32_342 : BitVec 32 := 0#32
  ![v560.toNat, 0]
def k0_cond178 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v504 : BitVec 32 := Scalar.extui v461
  let c0_i32_303 : BitVec 32 := 0#32
  let v505 : BitVec 1 := Scalar.cmpi .ne v504 c0_i32_303
  v505

def k0_off246 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c384_i32 : BitVec 32 := 384#32
  let v546 : BitVec 32 := Scalar.addi v545 c384_i32
  let c0_i32_332 : BitVec 32 := 0#32
  ![v546.toNat, 0]
def k0_off247 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_334 : BitVec 32 := 2048#32
  let v557 : BitVec 32 := Scalar.muli v473 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c384_i32_336 : BitVec 32 := 384#32
  let v560 : BitVec 32 := Scalar.addi v559 c384_i32_336
  let c0_i32_342 : BitVec 32 := 0#32
  ![v560.toNat, 0]
def k0_cond179 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v506 : BitVec 32 := Scalar.extui v464
  let c0_i32_304 : BitVec 32 := 0#32
  let v507 : BitVec 1 := Scalar.cmpi .ne v506 c0_i32_304
  v507

def k0_off248 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_329 : BitVec 32 := 0#32
  ![v546.toNat, 0]
def k0_cond180 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v508 : BitVec 32 := Scalar.extui v467
  let c0_i32_305 : BitVec 32 := 0#32
  let v509 : BitVec 1 := Scalar.cmpi .ne v508 c0_i32_305
  v509

def k0_off249 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c384_i32 : BitVec 32 := 384#32
  let v546 : BitVec 32 := Scalar.addi v545 c384_i32
  let c0_i32_329 : BitVec 32 := 0#32
  ![v546.toNat, 0]
def k0_cond181 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v510 : BitVec 32 := Scalar.extui v458
  let c0_i32_306 : BitVec 32 := 0#32
  let v511 : BitVec 1 := Scalar.cmpi .ne v510 c0_i32_306
  v511

def k0_off250 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_off251 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_334 : BitVec 32 := 2048#32
  let v557 : BitVec 32 := Scalar.muli v470 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c512_i32_336 : BitVec 32 := 512#32
  let v560 : BitVec 32 := Scalar.addi v559 c512_i32_336
  let c0_i32_342 : BitVec 32 := 0#32
  ![v560.toNat, 0]
def k0_cond182 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v512 : BitVec 32 := Scalar.extui v461
  let c0_i32_307 : BitVec 32 := 0#32
  let v513 : BitVec 1 := Scalar.cmpi .ne v512 c0_i32_307
  v513

def k0_off252 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c512_i32 : BitVec 32 := 512#32
  let v546 : BitVec 32 := Scalar.addi v545 c512_i32
  let c0_i32_332 : BitVec 32 := 0#32
  ![v546.toNat, 0]
def k0_off253 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_334 : BitVec 32 := 2048#32
  let v557 : BitVec 32 := Scalar.muli v473 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_335 : BitVec 32 := 1024#32
  let v558 : BitVec 32 := Scalar.muli v2 c1024_i32_335
  let v559 : BitVec 32 := Scalar.addi v557 v558
  let c512_i32_336 : BitVec 32 := 512#32
  let v560 : BitVec 32 := Scalar.addi v559 c512_i32_336
  let c0_i32_342 : BitVec 32 := 0#32
  ![v560.toNat, 0]
def k0_cond183 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v514 : BitVec 32 := Scalar.extui v464
  let c0_i32_308 : BitVec 32 := 0#32
  let v515 : BitVec 1 := Scalar.cmpi .ne v514 c0_i32_308
  v515

def k0_off254 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_329 : BitVec 32 := 0#32
  ![v546.toNat, 0]
def k0_cond184 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v516 : BitVec 32 := Scalar.extui v467
  let c0_i32_309 : BitVec 32 := 0#32
  let v517 : BitVec 1 := Scalar.cmpi .ne v516 c0_i32_309
  v517

def k0_off255 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c512_i32 : BitVec 32 := 512#32
  let v546 : BitVec 32 := Scalar.addi v545 c512_i32
  let c0_i32_329 : BitVec 32 := 0#32
  ![v546.toNat, 0]
def k0_cond185 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v518 : BitVec 32 := Scalar.extui v458
  let c0_i32_310 : BitVec 32 := 0#32
  let v519 : BitVec 1 := Scalar.cmpi .ne v518 c0_i32_310
  v519

def k0_off256 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_off257 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_333 : BitVec 32 := 2048#32
  let v557 : BitVec 32 := Scalar.muli v470 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c640_i32_335 : BitVec 32 := 640#32
  let v560 : BitVec 32 := Scalar.addi v559 c640_i32_335
  let c0_i32_341 : BitVec 32 := 0#32
  ![v560.toNat, 0]
def k0_cond186 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v520 : BitVec 32 := Scalar.extui v461
  let c0_i32_311 : BitVec 32 := 0#32
  let v521 : BitVec 1 := Scalar.cmpi .ne v520 c0_i32_311
  v521

def k0_off258 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c640_i32 : BitVec 32 := 640#32
  let v546 : BitVec 32 := Scalar.addi v545 c640_i32
  let c0_i32_331 : BitVec 32 := 0#32
  ![v546.toNat, 0]
def k0_off259 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_333 : BitVec 32 := 2048#32
  let v557 : BitVec 32 := Scalar.muli v473 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c640_i32_335 : BitVec 32 := 640#32
  let v560 : BitVec 32 := Scalar.addi v559 c640_i32_335
  let c0_i32_341 : BitVec 32 := 0#32
  ![v560.toNat, 0]
def k0_cond187 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v522 : BitVec 32 := Scalar.extui v464
  let c0_i32_312 : BitVec 32 := 0#32
  let v523 : BitVec 1 := Scalar.cmpi .ne v522 c0_i32_312
  v523

def k0_off260 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_328 : BitVec 32 := 0#32
  ![v546.toNat, 0]
def k0_cond188 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v524 : BitVec 32 := Scalar.extui v467
  let c0_i32_313 : BitVec 32 := 0#32
  let v525 : BitVec 1 := Scalar.cmpi .ne v524 c0_i32_313
  v525

def k0_off261 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c640_i32 : BitVec 32 := 640#32
  let v546 : BitVec 32 := Scalar.addi v545 c640_i32
  let c0_i32_328 : BitVec 32 := 0#32
  ![v546.toNat, 0]
def k0_cond189 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v526 : BitVec 32 := Scalar.extui v458
  let c0_i32_314 : BitVec 32 := 0#32
  let v527 : BitVec 1 := Scalar.cmpi .ne v526 c0_i32_314
  v527

def k0_off262 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_off263 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_333 : BitVec 32 := 2048#32
  let v557 : BitVec 32 := Scalar.muli v470 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c768_i32_335 : BitVec 32 := 768#32
  let v560 : BitVec 32 := Scalar.addi v559 c768_i32_335
  let c0_i32_341 : BitVec 32 := 0#32
  ![v560.toNat, 0]
def k0_cond190 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v528 : BitVec 32 := Scalar.extui v461
  let c0_i32_315 : BitVec 32 := 0#32
  let v529 : BitVec 1 := Scalar.cmpi .ne v528 c0_i32_315
  v529

def k0_off264 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c768_i32 : BitVec 32 := 768#32
  let v546 : BitVec 32 := Scalar.addi v545 c768_i32
  let c0_i32_331 : BitVec 32 := 0#32
  ![v546.toNat, 0]
def k0_off265 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_333 : BitVec 32 := 2048#32
  let v557 : BitVec 32 := Scalar.muli v473 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c768_i32_335 : BitVec 32 := 768#32
  let v560 : BitVec 32 := Scalar.addi v559 c768_i32_335
  let c0_i32_341 : BitVec 32 := 0#32
  ![v560.toNat, 0]
def k0_cond191 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v530 : BitVec 32 := Scalar.extui v464
  let c0_i32_316 : BitVec 32 := 0#32
  let v531 : BitVec 1 := Scalar.cmpi .ne v530 c0_i32_316
  v531

def k0_off266 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_328 : BitVec 32 := 0#32
  ![v546.toNat, 0]
def k0_cond192 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v532 : BitVec 32 := Scalar.extui v467
  let c0_i32_317 : BitVec 32 := 0#32
  let v533 : BitVec 1 := Scalar.cmpi .ne v532 c0_i32_317
  v533

def k0_off267 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c768_i32 : BitVec 32 := 768#32
  let v546 : BitVec 32 := Scalar.addi v545 c768_i32
  let c0_i32_328 : BitVec 32 := 0#32
  ![v546.toNat, 0]
def k0_cond193 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v456 : BitVec 32 := Scalar.addi v5 c1_i32_270
  let c2_i32_271 : BitVec 32 := 2#32
  let v457 : BitVec 32 := Scalar.addi v456 c2_i32_271
  let c3_i32_272 : BitVec 32 := 3#32
  let v458 : BitVec 1 := Scalar.cmpi .sle v457 c3_i32_272
  let v534 : BitVec 32 := Scalar.extui v458
  let c0_i32_318 : BitVec 32 := 0#32
  let v535 : BitVec 1 := Scalar.cmpi .ne v534 c0_i32_318
  v535

def k0_off268 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_323 : BitVec 32 := 2048#32
  let v543 : BitVec 32 := Scalar.muli v470 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_off269 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_280 : BitVec 32 := 1#32
  let v468 : BitVec 32 := Scalar.addi v5 c1_i32_280
  let c2_i32_281 : BitVec 32 := 2#32
  let v469 : BitVec 32 := Scalar.addi v468 c2_i32_281
  let c3_i32_282 : BitVec 32 := 3#32
  let v470 : BitVec 32 := Scalar.minsi v469 c3_i32_282
  let c2048_i32_333 : BitVec 32 := 2048#32
  let v557 : BitVec 32 := Scalar.muli v470 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c896_i32_335 : BitVec 32 := 896#32
  let v560 : BitVec 32 := Scalar.addi v559 c896_i32_335
  let c0_i32_341 : BitVec 32 := 0#32
  ![v560.toNat, 0]
def k0_cond194 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v459 : BitVec 32 := Scalar.subi v5 c1_i32_273
  let c2_i32_274 : BitVec 32 := 2#32
  let v460 : BitVec 32 := Scalar.subi v459 c2_i32_274
  let c0_i32_275 : BitVec 32 := 0#32
  let v461 : BitVec 1 := Scalar.cmpi .sge v460 c0_i32_275
  let v536 : BitVec 32 := Scalar.extui v461
  let c0_i32_319 : BitVec 32 := 0#32
  let v537 : BitVec 1 := Scalar.cmpi .ne v536 c0_i32_319
  v537

def k0_off270 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_323 : BitVec 32 := 2048#32
  let v543 : BitVec 32 := Scalar.muli v473 c2048_i32_323
  let c1_i32_165 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v283 : BitVec 32 := Scalar.subi c1_i32_165 v2
  let c1024_i32 : BitVec 32 := 1024#32
  let v544 : BitVec 32 := Scalar.muli v283 c1024_i32
  let v545 : BitVec 32 := Scalar.addi v543 v544
  let c896_i32 : BitVec 32 := 896#32
  let v546 : BitVec 32 := Scalar.addi v545 c896_i32
  let c0_i32_331 : BitVec 32 := 0#32
  ![v546.toNat, 0]
def k0_off271 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v471 : BitVec 32 := Scalar.subi v5 c1_i32_283
  let c2_i32_284 : BitVec 32 := 2#32
  let v472 : BitVec 32 := Scalar.subi v471 c2_i32_284
  let c0_i32_285 : BitVec 32 := 0#32
  let v473 : BitVec 32 := Scalar.maxsi v472 c0_i32_285
  let c2048_i32_333 : BitVec 32 := 2048#32
  let v557 : BitVec 32 := Scalar.muli v473 c2048_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_334 : BitVec 32 := 1024#32
  let v558 : BitVec 32 := Scalar.muli v2 c1024_i32_334
  let v559 : BitVec 32 := Scalar.addi v557 v558
  let c896_i32_335 : BitVec 32 := 896#32
  let v560 : BitVec 32 := Scalar.addi v559 c896_i32_335
  let c0_i32_341 : BitVec 32 := 0#32
  ![v560.toNat, 0]
def k0_cond195 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 1 := Scalar.cmpi .sge v5 c1_i32_2
  let c2_i32_276 : BitVec 32 := 2#32
  let v462 : BitVec 32 := Scalar.addi v5 c2_i32_276
  let c3_i32_277 : BitVec 32 := 3#32
  let v463 : BitVec 1 := Scalar.cmpi .sle v462 c3_i32_277
  let v464 : BitVec 1 := Scalar.andi v9 v463
  let v538 : BitVec 32 := Scalar.extui v464
  let c0_i32_320 : BitVec 32 := 0#32
  let v539 : BitVec 1 := Scalar.cmpi .ne v538 c0_i32_320
  v539

def k0_off272 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_286 : BitVec 32 := 2#32
  let v474 : BitVec 32 := Scalar.addi v5 c2_i32_286
  let c3_i32_287 : BitVec 32 := 3#32
  let v475 : BitVec 32 := Scalar.minsi v474 c3_i32_287
  let c2048_i32_323 : BitVec 32 := 2048#32
  let v543 : BitVec 32 := Scalar.muli v475 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_328 : BitVec 32 := 0#32
  ![v546.toNat, 0]
def k0_cond196 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let v10 : BitVec 1 := Scalar.cmpi .sle v5 c2_i32_3
  let c2_i32_278 : BitVec 32 := 2#32
  let v465 : BitVec 32 := Scalar.subi v5 c2_i32_278
  let c0_i32_279 : BitVec 32 := 0#32
  let v466 : BitVec 1 := Scalar.cmpi .sge v465 c0_i32_279
  let v467 : BitVec 1 := Scalar.andi v10 v466
  let v540 : BitVec 32 := Scalar.extui v467
  let c0_i32_321 : BitVec 32 := 0#32
  let v541 : BitVec 1 := Scalar.cmpi .ne v540 c0_i32_321
  v541

def k0_off273 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_288 : BitVec 32 := 2#32
  let v476 : BitVec 32 := Scalar.subi v5 c2_i32_288
  let c0_i32_289 : BitVec 32 := 0#32
  let v477 : BitVec 32 := Scalar.maxsi v476 c0_i32_289
  let c2048_i32_323 : BitVec 32 := 2048#32
  let v543 : BitVec 32 := Scalar.muli v477 c2048_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v544 : BitVec 32 := Scalar.muli v2 c1024_i32
  let v545 : BitVec 32 := Scalar.addi v543 v544
  let c896_i32 : BitVec 32 := 896#32
  let v546 : BitVec 32 := Scalar.addi v545 c896_i32
  let c0_i32_328 : BitVec 32 := 0#32
  ![v546.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/-
# The plan of the exchange, as plain data

Every device runs the same list of steps; a step that does not apply at the device's place `y` along the mesh axis is
skipped. This module holds that list and, for each step, what a device must hold to take it and what it holds
afterwards, as lists of tokens (`Atom`), together with the order in which waits may depend on one another. `chk` runs
the list on a stock of atoms; `chk_start` says that at every place along the axis the run succeeds and ends with the
expected stock. Nothing here mentions arrays or programs.
-/
module

public import Mathlib.Data.List.Basic
public import Mathlib.Data.List.Perm.Basic
public import Mathlib.Data.List.Perm.Subperm
public import Mathlib.Data.List.FinRange

@[expose] public section

namespace Cert.Ring

/-! ## Keys

A key names a semaphore cell of a device: `0` is the entry barrier, `1 + 24 a + 8 s + q` the entry `[s, q]` of the `a`-th
of the eight 3 × 8 semaphore arrays (send left, send right, two sends to the peer, and the four receives matching them),
`193` the semaphore of the local copy. -/

/-- The array a key belongs to. -/
def arr (k : ℕ) : ℕ := (k - 1) / 24
/-- The round of the chain a key belongs to. -/
def stp (k : ℕ) : ℕ := (k - 1) / 8 % 3
/-- The sub-block a key belongs to. -/
def sub (k : ℕ) : ℕ := (k - 1) % 8
/-- The key of entry `[s, q]` of array `a`. -/
def key (a s q : ℕ) : ℕ := 1 + 24 * a + 8 * s + q

/-- Whether the cell `k` is used by a device at place `y`: a send left needs a left neighbour and a chunk to pass on, a
    receive from the right a chunk further right, and so on. -/
def act (y k : ℕ) : Bool :=
  if k = 0 then true
  else if k = 193 then true
  else match arr k with
    | 0 => decide (1 ≤ y) && decide (y + stp k ≤ 3)
    | 1 => decide (y ≤ 2) && decide (stp k ≤ y)
    | 2 => decide (y + 1 + stp k ≤ 3)
    | 3 => decide (stp k + 1 ≤ y)
    | 4 => decide (y + 1 + stp k ≤ 3)
    | 5 => decide (stp k + 1 ≤ y)
    | 6 => decide (y + 1 + stp k ≤ 3)
    | 7 => decide (stp k + 1 ≤ y)
    | _ => false

/-- The level of a cell: a device waiting on it owes only cells of a higher level. -/
def lev (k : ℕ) : ℕ :=
  if k = 0 then 1
  else if k = 193 then 0
  else match arr k with
    | 4 => 2 + stp k
    | 5 => 2 + stp k
    | 6 => 10
    | 7 => 10
    | _ => 0

/-- The used keys of array `a` at place `y`. -/
def keys (y a : ℕ) : List ℕ := ((List.range 24).map (1 + 24 * a + ·)).filter (act y)

/-! ## Steps and atoms -/

/-- A step: a signal to the peer (`0`), the left (`1`) or the right (`2`) neighbour; the wait on the barrier by a device with
    `n` neighbours; a remote
    copy paying into the cell `k`; a wait on the cell `k`; the start of the local copy. -/
inductive Step where
  | sig (j : ℕ)
  | barrier (n : ℕ)
  | send (k : ℕ)
  | wait (k : ℕ)
  | own
  deriving DecidableEq

/-- What a device may hold. -/
inductive Atom where
  /-- the position on its cell `k`, nothing consumed -/
  | pos (k : ℕ)
  /-- the position on its cell `k`, its one round consumed -/
  | done (k : ℕ)
  /-- the right to pay for the copy `k` -/
  | tok (k : ℕ)
  /-- the right to signal `j` -/
  | btok (j : ℕ)
  /-- the credit to wait on its cell `k` -/
  | crd (k : ℕ)
  /-- its own rows that the receive `k` will fill -/
  | slot (k : ℕ)
  /-- the rows on the target device that the send `k` fills -/
  | dst (k : ℕ)
  /-- a share of the rows of its own block that the send `k` reads -/
  | xin (k : ℕ)
  /-- the first share of the rows the receive `k` filled -/
  | gotL (k : ℕ)
  /-- the second share of those rows -/
  | gotR (k : ℕ)
  /-- the rows the receive `k` from the peer filled -/
  | gotx (k : ℕ)
  /-- the rows of the result the local copy fills -/
  | ownDst
  /-- those rows, filled -/
  | ownOut
  /-- the share of its own block the local copy reads -/
  | xOwn

open Step Atom

/-- A number that tells atoms apart. -/
def Atom.code : Atom → ℕ
  | pos k => 16 * k
  | done k => 16 * k + 1
  | tok k => 16 * k + 2
  | btok k => 16 * k + 3
  | crd k => 16 * k + 4
  | slot k => 16 * k + 5
  | dst k => 16 * k + 6
  | xin k => 16 * k + 7
  | gotL k => 16 * k + 8
  | gotR k => 16 * k + 9
  | gotx k => 16 * k + 10
  | ownDst => 11
  | ownOut => 12
  | xOwn => 13

theorem Atom.code_inj {a b : Atom} (h : a.code = b.code) : a = b := by
  cases a <;> cases b <;> simp only [Atom.code, pos.injEq, done.injEq, tok.injEq, btok.injEq, crd.injEq, slot.injEq, dst.injEq,
    xin.injEq, gotL.injEq, gotR.injEq, gotx.injEq, reduceCtorEq] at h ⊢ <;> omega

/-- The atom a send reads from. -/
def src (k : ℕ) : Atom :=
  if arr k < 2 then (if stp k = 0 then xin k else gotL (k + 88)) else gotR (k + 48)

/-- What the cell `k` hands over when its round is complete. -/
def pay (k : ℕ) : List Atom :=
  if k = 193 then [ownOut, xOwn]
  else if arr k < 4 then [src k]
  else if arr k < 6 then [gotL k, gotR k]
  else [gotx k]

/-- The arrays of the sends whose target rows the barrier's duty `j` hands over. -/
def dutyArrs (j : ℕ) : List ℕ := if j = 0 then [2, 3] else if j = 1 then [0] else [1]
/-- The arrays of the receives whose rows the signal `j` hands over. -/
def sigArrs (j : ℕ) : List ℕ := if j = 0 then [6, 7] else if j = 1 then [5] else [4]
/-- The sends whose target rows the barrier's duty `j` hands over at place `y`. -/
def dutyKeys (y j : ℕ) : List ℕ := (dutyArrs j).flatMap (keys y)
/-- The receives whose rows the signal `j` hands over at place `y`. -/
def sigKeys (y j : ℕ) : List ℕ := (sigArrs j).flatMap (keys y)

/-- Whether the neighbour `j` exists: the peer always, the left from place 1 on, the right up to place 2. -/
def hasNb (y j : ℕ) : Bool := if j = 0 then true else if j = 1 then decide (1 ≤ y) else decide (y ≤ 2)

/-- The neighbours that exist at place `y`. -/
def nbs (y : ℕ) : List ℕ := [0, 1, 2].filter (hasNb y)

/-- Whether a step applies at place `y`. -/
def guard (y : ℕ) : Step → Bool
  | sig j => hasNb y j
  | barrier n => Nat.beq (nbs y).length n
  | send k => act y k && (decide (0 < k) && decide (k < 97))
  | wait k => act y k && (decide (0 < k) && decide (k < 194))
  | own => true

/-- What a step takes. -/
def need (y : ℕ) : Step → List Atom
  | sig j => btok j :: (sigKeys y j).map slot
  | barrier _ => [pos 0, crd 0]
  | send k => [tok k, dst k, src k]
  | wait k => [pos k, crd k]
  | own => [tok 193, ownDst, xOwn]

/-- What a step gives. -/
def give (y : ℕ) : Step → List Atom
  | sig _ => []
  | barrier _ => done 0 :: (nbs y).flatMap fun j => (dutyKeys y j).map dst
  | send k => [crd k]
  | wait k => done k :: pay k
  | own => [crd 193]

/-- The level of the cell on another device a step pays into. -/
def owedLev : Step → Option ℕ
  | sig _ => some 1
  | send k => some (lev (k + 96))
  | _ => none

/-- The cell a step waits on. -/
def waits : Step → Option ℕ
  | barrier _ => some 0
  | wait k => some k
  | _ => none

/-- The steps still to come owe only cells above the level `n`. -/
def above (y n : ℕ) (l : List Step) : Bool :=
  l.all fun i => !guard y i || match owedLev i with
    | some n' => decide (n < n')
    | none => true

/-! ## Stocks -/

/-- What a device at place `y` starts with. -/
def start (y : ℕ) : List Atom :=
  (nbs y).map btok ++ (List.range 194).map pos ++ (0 :: [4, 5, 6, 7].flatMap (keys y)).map crd
    ++ ([0, 1, 2, 3].flatMap (keys y) ++ [193]).map tok ++ ([4, 5, 6, 7].flatMap (keys y)).map slot
    ++ ((List.range 8).map (1 + ·) ++ (List.range 8).map (25 + ·)).map xin ++ [xOwn, ownDst]

/-- What a device at place `y` ends with. -/
def finish (y : ℕ) : List Atom :=
  (List.range 194).map (fun k => if act y k then done k else pos k)
    ++ ([4, 5].flatMap (keys y)).flatMap (fun k => [gotL k, gotR k]) ++ ([6, 7].flatMap (keys y)).map gotx
    ++ ((List.range 8).map (1 + ·) ++ (List.range 8).map (25 + ·)).map xin ++ [xOwn, ownOut]

/-- Take one atom out of a stock. -/
def rm (a : Atom) : List Atom → Option (List Atom)
  | [] => none
  | b :: l => if Nat.beq a.code b.code then some l else
    match rm a l with
    | some l' => some (b :: l')
    | none => none

/-- Take the atoms of a list out of a stock, each once. -/
def take : List Atom → List Atom → Option (List Atom)
  | [], A => some A
  | a :: n, A =>
    match rm a A with
    | some B => take n B
    | none => none

/-- The list runs from the stock `A` and ends with the expected stock. -/
def chk (y : ℕ) : List Step → List Atom → Bool
  | [], A => match take (finish y) A with
    | some B => B.isEmpty
    | none => false
  | i :: l, A =>
    if guard y i then
      (match waits i with
        | some k => above y (lev k) l
        | none => true) &&
      match take (need y i) A with
        | some B => chk y l (give y i ++ B)
        | none => false
    else chk y l A

/-! ## The program -/

/-- The steps of the kernel, in order. -/
def prog : List Step :=
  [sig 0, sig 1, sig 2, barrier 3, barrier 2]
    ++ (List.range 8).flatMap (fun q => [send (key 0 0 q), send (key 1 0 q)])
    ++ [own]
    ++ (List.range 3).flatMap (fun s =>
      (if s = 0 then [] else (List.range 8).flatMap fun q => [send (key 0 s q), send (key 1 s q)])
        ++ (List.range 8).flatMap fun q => [wait (key 4 s q), send (key 2 s q), wait (key 5 s q), send (key 3 s q)])
    ++ (List.range 3).flatMap (fun s => (List.range 8).flatMap fun q =>
      [wait (key 6 s q), wait (key 2 s q), wait (key 7 s q), wait (key 3 s q), wait (key 0 s q), wait (key 1 s q)])
    ++ [wait 193]

/-- At every place the kernel's steps run from the starting stock to the final one. -/
theorem chk_start : ∀ y : Fin 4, chk y prog (start y) = true := by decide +kernel

end Cert.Ring
-- ==== Proof.Stock.lean ====
/-
# Stocks of resources as lists

`all φ A` holds what every atom of the list `A` stands for. Taking atoms out of a list (`take`) splits the resources
accordingly, so that the pure run of the plan can be followed by the resources.
-/
module

public import proofs.«01_k».proof.Proof.Plan
public import Idealize.ShloMosaic.Lib.Pipeline.Launch
public import Idealize.ShloMosaic.Lib.Tactic

@[expose] public section

noncomputable section

namespace Cert.Ring

open Idealize.SL Idealize.SL.RA Idealize.SL.BI
open scoped Idealize.SL.BI
open Idealize.SL.BI.BIBase Idealize.SL.BI.Laws Idealize.SL.ProofMode

variable {M : Type} [URA M] {T : Type}

/-- Nothing on the left. -/
theorem nothing_left (P : sProp M) : iprop(emp ∗ P) = P := equiv_iff.mp BI.emp_sep
/-- Nothing on the right. -/
theorem nothing_right (P : sProp M) : iprop(P ∗ emp) = P := equiv_iff.mp BI.sep_emp
/-- Brackets to the right. -/
theorem brackets (P Q R : sProp M) : iprop((P ∗ Q) ∗ R) = iprop(P ∗ Q ∗ R) := equiv_iff.mp ⟨BI.sep_assoc, BI.sep_assoc'⟩
/-- Either order. -/
theorem either_order (P Q : sProp M) : iprop(P ∗ Q) = iprop(Q ∗ P) := equiv_iff.mp ⟨BI.sep_comm, BI.sep_comm⟩

/-- What every entry of a list stands for, held at once. -/
def all (φ : T → sProp M) : List T → sProp M
  | [] => iprop(emp)
  | a :: A => iprop(φ a ∗ all φ A)

/-- Nothing for the empty list. -/
theorem all_nil (φ : T → sProp M) : all φ [] = iprop(emp) := rfl
/-- The first entry and the rest. -/
theorem all_cons (φ : T → sProp M) (a : T) (A : List T) : all φ (a :: A) = iprop(φ a ∗ all φ A) := rfl

/-- A list of one entry. -/
theorem all_one (φ : T → sProp M) (a : T) : all φ [a] = φ a := by
  rw [all_cons, all_nil]; exact nothing_right _

/-- Two lists one after the other. -/
theorem all_append (φ : T → sProp M) (A B : List T) : all φ (A ++ B) = iprop(all φ A ∗ all φ B) := by
  induction A with
  | nil => rw [List.nil_append, all_nil]; exact (nothing_left _).symm
  | cons a A ih => rw [List.cons_append, all_cons, ih, all_cons]; exact (brackets _ _ _).symm

/-- The order of a list does not matter. -/
theorem all_perm (φ : T → sProp M) {A B : List T} (h : A.Perm B) : all φ A = all φ B := by
  induction h with
  | nil => rfl
  | cons a _ ih => rw [all_cons, all_cons, ih]
  | swap a b l =>
    rw [all_cons, all_cons, all_cons, all_cons, ← brackets, ← brackets, either_order (φ b)]
  | trans _ _ ih₁ ih₂ => exact ih₁.trans ih₂

/-- Entries renamed. -/
theorem all_map {S : Type} (φ : T → sProp M) (f : S → T) (A : List S) : all φ (A.map f) = all (fun a => φ (f a)) A := by
  induction A with
  | nil => rfl
  | cons a A ih => rw [List.map_cons, all_cons, ih, all_cons]

/-- Entries replaced by lists. -/
theorem all_flatMap {S : Type} (φ : T → sProp M) (f : S → List T) (A : List S) :
    all φ (A.flatMap f) = all (fun a => all φ (f a)) A := by
  induction A with
  | nil => rfl
  | cons a A ih => rw [List.flatMap_cons, all_append, ih, all_cons]

/-- Entry by entry. -/
theorem all_mono {φ ψ : T → sProp M} {A : List T} (h : ∀ a ∈ A, φ a ⊢ ψ a) : all φ A ⊢ all ψ A := by
  induction A with
  | nil => exact Entails.refl _
  | cons a A ih =>
    rw [all_cons, all_cons]
    exact BI.sep_mono (h a List.mem_cons_self) (ih fun b hb => h b (List.mem_cons_of_mem _ hb))

/-- Equal entry by entry. -/
theorem all_congr {φ ψ : T → sProp M} {A : List T} (h : ∀ a ∈ A, φ a = ψ a) : all φ A = all ψ A := by
  induction A with
  | nil => rfl
  | cons a A ih =>
    rw [all_cons, all_cons, h a List.mem_cons_self, ih fun b hb => h b (List.mem_cons_of_mem _ hb)]

/-- Two things for each entry. -/
theorem all_sep (φ ψ : T → sProp M) (A : List T) : all (fun a => iprop(φ a ∗ ψ a)) A = iprop(all φ A ∗ all ψ A) := by
  induction A with
  | nil => rw [all_nil, all_nil, all_nil]; exact (nothing_left _).symm
  | cons a A ih =>
    rw [all_cons, ih, all_cons, all_cons, brackets, brackets, ← brackets (ψ a), either_order (ψ a), brackets (all φ A)]

/-- A finite set listed. -/
theorem all_toList {S : Type} [DecidableEq S] (φ : S → sProp M) (s : Finset S) (A : List S) (hn : A.Nodup) (hs : ∀ a, a ∈ s ↔ a ∈ A) :
    bigSep s φ = all φ A := by
  induction A generalizing s with
  | nil => rw [show s = ∅ from Finset.eq_empty_of_forall_notMem fun a ha => by simpa using (hs a).1 ha, bigSep_empty]; rfl
  | cons a A ih =>
    have ha : a ∉ A := (List.nodup_cons.1 hn).1
    rw [bigSep_erase (i := a) ((hs a).2 List.mem_cons_self), all_cons]
    refine congrArg (BI.sep (φ a)) (ih (s.erase a) (List.nodup_cons.1 hn).2 fun b => ?_)
    rw [Finset.mem_erase, hs, List.mem_cons]
    refine ⟨fun ⟨h1, h2⟩ => h2.resolve_left h1, fun h => ⟨fun e => ha (e ▸ h), Or.inr h⟩⟩

/-- Removing an atom leaves the rest. -/
theorem rm_perm {a : Atom} {A B : List Atom} (h : rm a A = some B) : A.Perm (a :: B) := by
  induction A generalizing B with
  | nil => cases h
  | cons b l ih =>
    unfold rm at h
    split at h
    · rename_i hb
      have : a = b := Atom.code_inj (Nat.eq_of_beq_eq_true hb)
      subst this
      rw [Option.some.injEq] at h; subst h; exact List.Perm.refl _
    · split at h
      · rename_i l' hl'
        rw [Option.some.injEq] at h; subst h
        exact ((ih hl').cons b).trans (List.Perm.swap a b l')
      · cases h

/-- Taking atoms leaves the rest. -/
theorem take_perm {n A B : List Atom} (h : take n A = some B) : A.Perm (n ++ B) := by
  induction n generalizing A with
  | nil => unfold take at h; rw [Option.some.injEq] at h; subst h; exact List.Perm.refl _
  | cons a n ih =>
    unfold take at h
    split at h
    · rename_i C hC
      exact (rm_perm hC).trans ((ih h).cons a)
    · cases h

/-- The resources of a stock from which atoms are taken split. -/
theorem all_take (φ : Atom → sProp M) {n A B : List Atom} (h : take n A = some B) : all φ A = iprop(all φ n ∗ all φ B) := by
  rw [all_perm φ (take_perm h), all_append]

end Cert.Ring

end
-- ==== Proof.Ground.lean ====
/-
# Devices, rows and contents

The mesh position of a device and its neighbours, the rows of the result each receive fills, and what the rows hold when
they are filled.
-/
module

public import proofs.«01_k».proof.Proof.Stock
public import proofs.«01_k».proof.Proof.Gen.KernelIdeal
public import proofs.«01_k».proof.Proof.Gen.KernelIdeal.Launch

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

set_option backward.proofsInPublic true in
/-- The device at mesh position `(x, y, z)`. -/
def mk (x y z : ℕ) : Dev nD := ⟨16 * (x % 2) + 4 * (y % 4) + z % 4, by show _ < 32; omega⟩
/-- A device's place along the first mesh axis; -/
def xc (c : Dev nD) : ℕ := c.val / 16
/-- along the second, the axis of the gather; -/
def yc (c : Dev nD) : ℕ := c.val / 4 % 4
/-- and along the third. -/
def zc (c : Dev nD) : ℕ := c.val % 4
/-- The device at the other place along the first axis. -/
def peer (c : Dev nD) : Dev nD := mk (xc c + 1) (yc c) (zc c)
/-- The device before along the second axis, around. -/
def lft (c : Dev nD) : Dev nD := mk (xc c) (yc c + 3) (zc c)
/-- The device after along the second axis, around. -/
def rgt (c : Dev nD) : Dev nD := mk (xc c) (yc c + 1) (zc c)

theorem peer_peer : ∀ c, peer (peer c) = c := by decide +kernel
theorem lft_rgt : ∀ c, lft (rgt c) = c := by decide +kernel
theorem rgt_lft : ∀ c, rgt (lft c) = c := by decide +kernel
theorem mk_self : ∀ c, mk (xc c) (yc c) (zc c) = c := by decide +kernel
theorem yc_lt : ∀ c, yc c < 4 := by decide +kernel

/-- The pairing along the first axis. -/
def peers : Dev nD ≃ Dev nD := ⟨peer, peer, peer_peer, peer_peer⟩
/-- The step along the second axis. -/
def rights : Dev nD ≃ Dev nD := ⟨rgt, lft, lft_rgt, rgt_lft⟩

/-- The device a send goes to. -/
def tgt (c : Dev nD) (k : ℕ) : Dev nD := if arr k = 0 then lft c else if arr k = 1 then rgt c else peer c
/-- The device a signal goes to. -/
def sigTo (c : Dev nD) (j : ℕ) : Dev nD := if j = 0 then peer c else if j = 1 then lft c else rgt c
/-- Which duty of that device's barrier the signal pays. -/
def sigDuty (j : ℕ) : Fin 3 := if j = 0 then 0 else if j = 1 then 2 else 1

/-! ## Rows -/

/-- Rows `a` to `a + n` of the result. -/
def rows (a n : ℕ) : Finset S8192x512.Idx := Finset.univ.filter fun i => a ≤ (i 0).val ∧ (i 0).val < a + n
/-- Rows `a` to `a + n` of a block. -/
def srows (a n : ℕ) : Finset S2048x512.Idx := Finset.univ.filter fun i => a ≤ (i 0).val ∧ (i 0).val < a + n

theorem mem_rows {a n : ℕ} {i : S8192x512.Idx} : i ∈ rows a n ↔ a ≤ (i 0).val ∧ (i 0).val < a + n := by
  simp only [rows, Finset.mem_filter, Finset.mem_univ, true_and]
theorem mem_srows {a n : ℕ} {i : S2048x512.Idx} : i ∈ srows a n ↔ a ≤ (i 0).val ∧ (i 0).val < a + n := by
  simp only [srows, Finset.mem_filter, Finset.mem_univ, true_and]

/-- The chunk the receive `k` of a device brings. -/
def chunk (c : Dev nD) (k : ℕ) : ℕ := if arr k = 4 ∨ arr k = 6 then yc c + 1 + stp k else yc c - 1 - stp k
/-- The half of the chunk it brings. -/
def half (c : Dev nD) (k : ℕ) : ℕ := if arr k < 6 then xc c else 1 - xc c
/-- The first row the receive `k` fills. -/
def rowOf (c : Dev nD) (k : ℕ) : ℕ := 2048 * chunk c k + 1024 * half c k + 128 * sub k

/-! ## The slices -/

/-- A block of 128 rows of the result, as the program names it. -/
abbrev oSl (off : Fin 2 → ℕ) (h : ∀ a, off a + S128x512.size a ≤ S8192x512.size a) : Memref sig .tc .hbm S128x512 .f32 :=
  (Memref.whole main_v1).slice (Rect.unit (s := S8192x512) off S128x512.size h) (fun _ => rfl)
/-- A block of 128 rows of the staged argument. -/
abbrev iSl (off : Fin 2 → ℕ) (h : ∀ a, off a + S128x512.size a ≤ S2048x512.size a) : Memref sig .tc .vmem S128x512 .f32 :=
  (Memref.whole cc0_stg0_0).slice (Rect.unit (s := S2048x512) off S128x512.size h) (fun _ => rfl)
/-- The rows of the result the local copy fills. -/
abbrev oOwn (off : Fin 2 → ℕ) (h : ∀ a, off a + S2048x512.size a ≤ S8192x512.size a) : Memref sig .tc .hbm S2048x512 .f32 :=
  (Memref.whole main_v1).slice (Rect.unit (s := S8192x512) off S2048x512.size h) (fun _ => rfl)

theorem oSl_set (off : Fin 2 → ℕ) (h) (h1 : off 1 = 0) : (oSl off h).view.set = rows (off 0) 128 := by
  show ((View.whole main_v1).slice _).set = _
  rw [View.set_slice_whole]
  ext i
  rw [Rect.mem_set_unit, mem_rows]
  refine ⟨fun hi => hi 0, fun hi a => ?_⟩
  match a with
  | 0 => exact hi
  | 1 => have : (i 1).val < 512 := (i 1).isLt; rw [h1]; exact ⟨Nat.zero_le _, by rw [Nat.zero_add]; exact this⟩

theorem iSl_set (off : Fin 2 → ℕ) (h) (h1 : off 1 = 0) : (iSl off h).view.set = srows (off 0) 128 := by
  show ((View.whole cc0_stg0_0).slice _).set = _
  rw [View.set_slice_whole]
  ext i
  rw [Rect.mem_set_unit, mem_srows]
  refine ⟨fun hi => hi 0, fun hi a => ?_⟩
  match a with
  | 0 => exact hi
  | 1 => have : (i 1).val < 512 := (i 1).isLt; rw [h1]; exact ⟨Nat.zero_le _, by rw [Nat.zero_add]; exact this⟩

theorem oOwn_set (off : Fin 2 → ℕ) (h) (h1 : off 1 = 0) : (oOwn off h).view.set = rows (off 0) 2048 := by
  show ((View.whole main_v1).slice _).set = _
  rw [View.set_slice_whole]
  ext i
  rw [Rect.mem_set_unit, mem_rows]
  refine ⟨fun hi => hi 0, fun hi a => ?_⟩
  match a with
  | 0 => exact hi
  | 1 => have : (i 1).val < 512 := (i 1).isLt; rw [h1]; exact ⟨Nat.zero_le _, by rw [Nat.zero_add]; exact this⟩

/-! ## Contents -/

/-- The place of a block a row of the result comes from. -/
def fold (i : S8192x512.Idx) : S2048x512.Idx := fun a => match a with
  | 0 => ⟨(i 0).val % 2048, Nat.mod_lt _ (by decide)⟩
  | 1 => ⟨(i 1).val, (i 1).isLt⟩

/-- Places of an array of 2048 rows are equal when their coordinates are. -/
theorem sIdx_ext {i j : S2048x512.Idx} (h0 : (i 0).val = (j 0).val) (h1 : (i 1).val = (j 1).val) : i = j := by
  funext a
  match a with
  | 0 => exact Fin.ext h0
  | 1 => exact Fin.ext h1
theorem oIdx_ext {i j : S8192x512.Idx} (h0 : (i 0).val = (j 0).val) (h1 : (i 1).val = (j 1).val) : i = j := by
  funext a
  match a with
  | 0 => exact Fin.ext h0
  | 1 => exact Fin.ext h1

variable (X : Dev nD → S2048x512.Idx → Elt F .f32)

/-- What the exchange along the second axis brings to the devices at place `z` of the third: row by row, the block of the
    device at the row's half and chunk. -/
def gl (z : ℕ) (i : S8192x512.Idx) : Elt F .f32 := X (mk ((i 0).val % 2048 / 1024) ((i 0).val / 2048) z) (fold i)
/-- A device's own block at its own rows. -/
def own (c : Dev nD) (i : S8192x512.Idx) : Elt F .f32 := X c (fold i)
/-- What a device's result holds in the end. -/
def fin (c : Dev nD) (i : S8192x512.Idx) : Elt F .f32 := if (i 0).val / 2048 = yc c then own X c i else gl X (zc c) i

/-- Copying rows of the result to rows of the same numbers: the rows of the source. -/
theorem write_oo {off off' : Fin 2 → ℕ} {h h'} (e0 : off' 0 = off 0) (h1 : off 1 = 0) (h1' : off' 1 = 0)
    (fd fs : S8192x512.Idx → Elt F .f32) {i} (hi : i ∈ rows (off 0) 128) :
    (oSl off h).view.write (Elt F) fd ((oSl off' h').view.read (Elt F) fs) Finset.univ i = fs i := by
  have : off' = off := funext fun a => match a with | 0 => e0 | 1 => h1'.trans h1.symm
  subst this
  rw [View.write_read_eq_piecewise]
  exact Finset.piecewise_eq_of_mem _ _ _ (by rw [← oSl_set _ h h1] at hi; exact hi)

/-- Copying rows of a block to rows of the result. -/
theorem write_oi {off off' : Fin 2 → ℕ} {h h'} (h1 : off 1 = 0) (h1' : off' 1 = 0)
    (fd : S8192x512.Idx → Elt F .f32) (fs : S2048x512.Idx → Elt F .f32) {i} (hi : i ∈ rows (off 0) 128)
    (hm : (i 0).val % 2048 = off' 0 + ((i 0).val - off 0)) :
    (oSl off h).view.write (Elt F) fd ((iSl off' h').view.read (Elt F) fs) Finset.univ i = fs (fold i) := by
  rw [← oSl_set _ h h1] at hi
  obtain ⟨x, -, rfl⟩ := Finset.mem_map.1 hi
  rw [View.write_emb_of_mem _ _ (Finset.mem_univ x), View.read_apply]
  show fs _ = fs _
  refine congrArg fs (sIdx_ext ?_ ?_)
  · show off' 0 + 1 * (x 0).val = _
    refine Eq.trans ?_ hm.symm
    show _ = off' 0 + (off 0 + 1 * (x 0).val - off 0)
    omega
  · show off' 1 + 1 * (x 1).val = off 1 + 1 * (x 1).val
    rw [h1, h1']

/-- Copying a whole block to rows of the result. -/
theorem write_own {off : Fin 2 → ℕ} {h} (h1 : off 1 = 0) (h0 : off 0 % 2048 = 0)
    (fd : S8192x512.Idx → Elt F .f32) (fs : S2048x512.Idx → Elt F .f32) {i} (hi : i ∈ rows (off 0) 2048) :
    (oOwn off h).view.write (Elt F) fd ((Memref.whole cc0_stg0_0).view.read (Elt F) fs) Finset.univ i = fs (fold i) := by
  rw [← oOwn_set _ h h1] at hi
  obtain ⟨x, -, rfl⟩ := Finset.mem_map.1 hi
  rw [View.write_emb_of_mem _ _ (Finset.mem_univ x), View.read_apply]
  show fs _ = fs _
  refine congrArg fs (sIdx_ext ?_ ?_)
  · show (x 0).val = (off 0 + 1 * (x 0).val) % 2048
    have : (x 0).val < 2048 := (x 0).isLt
    omega
  · show (x 1).val = off 1 + 1 * (x 1).val
    rw [h1]; omega

/-! ## The sends -/

/-- Where the sends of a device go and where their rows come from: the target is at the same place along the third axis and
    expects the rows; the rows have the numbers of the source rows, which are the device's own block in the first round and
    rows received before otherwise. -/
theorem send_facts : ∀ c : Dev nD, ∀ k : Fin 97, k.val ≠ 0 → act (yc c) k = true →
    zc (tgt c k) = zc c ∧ act (yc (tgt c k)) (k + 96) = true
    ∧ (arr k < 2 → stp k = 0 → rowOf (tgt c k) (k + 96) = 2048 * yc c + (1024 * xc c + 128 * sub k))
    ∧ (arr k < 2 → stp k ≠ 0 → rowOf (tgt c k) (k + 96) = rowOf c (k + 88))
    ∧ (¬ arr k < 2 → rowOf (tgt c k) (k + 96) = rowOf c (k + 48)) := by decide +kernel

/-- The rows of a device's own block, as the devices along the second axis hold them. -/
theorem gl_own (X : Dev nD → S2048x512.Idx → Elt F .f32) (c : Dev nD) (k : ℕ) {i : S8192x512.Idx}
    (hi : i ∈ rows (2048 * yc c + (1024 * xc c + 128 * sub k)) 128) :
    (i 0).val % 2048 = 1024 * xc c + 128 * sub k + ((i 0).val - (2048 * yc c + (1024 * xc c + 128 * sub k)))
    ∧ gl X (zc c) i = X c (fold i) := by
  obtain ⟨h1, h2⟩ := mem_rows.1 hi
  have hs : sub k < 8 := Nat.mod_lt _ (by decide)
  have hx : xc c < 2 := by have := c.isLt; unfold xc; show c.val / 16 < 2; have : c.val < 32 := c.isLt; omega
  have key : ∀ r : ℕ, 2048 * yc c + (1024 * xc c + 128 * sub k) ≤ r → r < 2048 * yc c + (1024 * xc c + 128 * sub k) + 128 →
      r % 2048 = 1024 * xc c + 128 * sub k + (r - (2048 * yc c + (1024 * xc c + 128 * sub k)))
      ∧ r % 2048 / 1024 = xc c ∧ r / 2048 = yc c := fun r _ _ => by omega
  obtain ⟨e1, e2, e3⟩ := key _ h1 h2
  refine ⟨e1, ?_⟩
  unfold gl
  rw [e2, e3, mk_self]

end Cert.Ring

end
-- ==== Proof.Cells.lean ====
/-
# The semaphore cells, what each hands over, and what the atoms of the plan stand for
-/
module

public import proofs.«01_k».proof.Proof.Ground
public import proofs.«01_k».proof.Proof.Gen.KernelIdeal.Skeleton
public import Idealize.ShloMosaic.Lib.Pipeline.Kit

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore. -/
abbrev barS : Sem sig := (SemArray.scalar (sig.barrier 0 rfl) : Sems sig S_).sem

set_option backward.proofsInPublic true in
/-- The transfer semaphore of a key. -/
def dsem (k : ℕ) : DmaSem sig := (⟨k % 194, Nat.mod_lt _ (by decide)⟩ : Fin 194)
/-- The semaphore of a key. -/
def csem (k : ℕ) : SemLoc sig := if k = 0 then .reg barS else .dma (dsem k)
/-- The cell of a key on a device. -/
abbrev cell (c : Dev nD) (k : ℕ) : GSem nD τ sig := ((c : Thread nD τ), csem k)

theorem csem_zero : csem 0 = .reg barS := if_pos rfl
theorem csem_pos {k : ℕ} (h : k ≠ 0) : csem k = .dma (dsem k) := if_neg h
theorem cell_zero (c : Dev nD) : cell c 0 = ((c : Thread nD τ), .reg barS) := congrArg (Prod.mk (c : Thread nD τ)) csem_zero
theorem cell_pos (c : Dev nD) {k : ℕ} (h : k ≠ 0) : cell c k = ((c : Thread nD τ), .dma (dsem k)) := congrArg (Prod.mk (c : Thread nD τ)) (csem_pos h)
theorem dsem_val {k : ℕ} (h : k < 194) : (dsem k).val = k := Nat.mod_eq_of_lt h

/-- Distinct keys have distinct semaphores. -/
theorem csem_inj {k k' : ℕ} (h : k < 194) (h' : k' < 194) (e : csem k = csem k') : k = k' := by
  by_cases h0 : k = 0
  · by_cases h0' : k' = 0
    · rw [h0, h0']
    · rw [h0, csem_zero, csem_pos h0'] at e; cases e
  · by_cases h0' : k' = 0
    · rw [h0', csem_zero, csem_pos h0] at e; cases e
    · rw [csem_pos h0, csem_pos h0'] at e
      have := congrArg Fin.val (SemLoc.dma.inj e)
      rwa [dsem_val h, dsem_val h'] at this

/-- The credit of a copy of 128 rows. -/
def N : ℕ := (oSl ![0, 0] (by decide)).view.dmaCredit
/-- The credit of the local copy. -/
def Nown : ℕ := (oOwn ![0, 0] (by decide)).view.dmaCredit
theorem N_pos : 0 < N := View.dmaCredit_pos _ (by decide)
theorem Nown_pos : 0 < Nown := View.dmaCredit_pos _ (by decide)
theorem credit_oSl (off h) : (oSl off h).view.dmaCredit = N := rfl
theorem credit_oOwn (off h) : (oOwn off h).view.dmaCredit = Nown := rfl

/-! ## What the atoms stand for -/

/-- A device's result buffer. -/
abbrev oLoc (c : Dev nD) : Loc nD τ sig := (c : Thread nD τ).loc main_v1
/-- Its staged argument. -/
abbrev sLoc (c : Dev nD) : Loc nD τ sig := (c : Thread nD τ).loc cc0_stg0_0

section
variable (X : Dev nD → S2048x512.Idx → Elt F .f32)

/-- Rows of a device's result, at a share and contents. -/
def oPts (c : Dev nD) (a n : ℕ) (q : PosShare TreeShare) (f : S8192x512.Idx → Elt F .f32) : sProp 𝕄 := oLoc c ↦[rows a n]{q} f
/-- Rows of a device's staged argument, at a share. -/
def sPts (c : Dev nD) (a n : ℕ) (q : PosShare TreeShare) : sProp 𝕄 := sLoc c ↦[srows a n]{q} X c

/-- The share of the staged argument a send to the left (`0`) or to the right reads at. -/
def xshare (k : ℕ) : PosShare TreeShare := if arr k = 0 then fullShare.right.left else fullShare.right.right

/-- The memory an atom stands for. -/
def mem (c : Dev nD) : Atom → sProp 𝕄
  | .slot k => iprop(∃ f, oPts c (rowOf c k) 128 fullShare f)
  | .dst k => iprop(∃ f, oPts (tgt c k) (rowOf (tgt c k) (k + 96)) 128 fullShare f)
  | .xin k => sPts X c (1024 * xc c + 128 * sub k) 128 (xshare k)
  | .gotL k => oPts c (rowOf c k) 128 fullShare.left (gl X (zc c))
  | .gotR k => oPts c (rowOf c k) 128 fullShare.right (gl X (zc c))
  | .gotx k => oPts c (rowOf c k) 128 fullShare (gl X (zc c))
  | .ownDst => iprop(∃ f, oPts c (2048 * yc c) 2048 fullShare f)
  | .ownOut => oPts c (2048 * yc c) 2048 fullShare (own X c)
  | .xOwn => sLoc c ↦{fullShare.left} X c
  | _ => iprop(emp)

theorem mem_slot (c k) : mem X c (.slot k) = iprop(∃ f, oPts c (rowOf c k) 128 fullShare f) := rfl
theorem mem_dst (c k) : mem X c (.dst k) = iprop(∃ f, oPts (tgt c k) (rowOf (tgt c k) (k + 96)) 128 fullShare f) := rfl

instance oPts_storable (c a n q f) : BI.Storable (upEmb : UEmb _ 𝕄) (oPts (F := F) c a n q f) := by unfold oPts; infer_instance
instance sPts_storable (c a n q) : BI.Storable (upEmb : UEmb _ 𝕄) (sPts X c a n q) := by unfold sPts; infer_instance
instance mem_storable (c : Dev nD) (a : Atom) : BI.Storable (upEmb : UEmb _ 𝕄) (mem X c a) := by
  cases a <;> unfold mem <;> infer_instance

instance all_mem_storable (c : Dev nD) (A : List Atom) : BI.Storable (upEmb : UEmb _ 𝕄) (all (mem X c) A) := by
  induction A with
  | nil => rw [all_nil]; infer_instance
  | cons a A ih => rw [all_cons]; infer_instance

/-- What a wait on the cell of a key consumes. -/
def amt (c : Dev nD) (k : ℕ) : ℕ := if k = 0 then (nbs (yc c)).length else if k = 193 then Nown else N

/-- What an atom stands for. -/
def φ (c : Dev nD) : Atom → sProp 𝕄
  | .pos k => atPos ER (cell c k) 0 ∅ 0
  | .done k => atPos ER (cell c k) 1 ∅ 0
  | .tok k => if k = 193 then dutyTok ER (cell c k) 0 0
      else iprop(dutyTok ER (cell c k) 0 0 ∗ dutyTok ER (cell (tgt c k) (k + 96)) 0 0)
  | .btok j => dutyTok ER (cell (sigTo c j) 0) 0 (sigDuty j)
  | .crd k => cred (tallyAt (cell c k) () (amt c k))
  | a => mem X c a

theorem φ_pos (c k) : φ X c (.pos k) = atPos ER (cell c k) 0 ∅ 0 := rfl
theorem φ_done (c k) : φ X c (.done k) = atPos ER (cell c k) 1 ∅ 0 := rfl
theorem φ_btok (c j) : φ X c (.btok j) = dutyTok ER (cell (sigTo c j) 0) 0 (sigDuty j) := rfl
theorem φ_crd (c k) : φ X c (.crd k) = cred (tallyAt (cell c k) () (amt c k)) := rfl
theorem φ_tok (c) {k} (h : k ≠ 193) : φ X c (.tok k) = iprop(dutyTok ER (cell c k) 0 0 ∗ dutyTok ER (cell (tgt c k) (k + 96)) 0 0) := if_neg h
theorem φ_tok_own (c) : φ X c (.tok 193) = dutyTok ER (cell c 193) 0 0 := by unfold φ; dsimp only; rw [if_pos rfl]

/-! ## The schedule -/

/-- One round. A barrier has a duty of one unit for every neighbour; a used transfer semaphore one duty of the copy's
    credit. The barrier's duties hand over the rows the neighbour's receives fill, the others what the plan says. -/
def Rd : Rounds.Schedule (GSem nD τ sig) (Fin 3) 𝕄 where
  duties g r := if r = 0 ∧ g.1.2 = .tc then match g.2 with
      | .reg _ => Finset.univ.filter fun j => hasNb (yc g.1.1) j.val = true
      | .dma q => if q.val ≠ 0 ∧ act (yc g.1.1) q.val = true then {0} else ∅
    else ∅
  unitless _ := False
  amount g _ _ := match g.2 with
    | .reg _ => 1
    | .dma q => if q.val = 193 then Nown else N
  payload g _ d := match g.2 with
    | .reg _ => all (mem X g.1.1) ((dutyKeys (yc g.1.1) d.val).map .dst)
    | .dma q => all (mem X g.1.1) (pay q.val)
  amount_pos g _ _ _ := by
    split
    · exact Nat.one_pos
    · split
      · exact Nown_pos
      · exact N_pos

instance Rd_payload_storable (g : GSem nD τ sig) (r : ℕ) (d : Fin 3) :
    BI.Storable (upEmb : UEmb _ 𝕄) ((Rd X).payload g r d) := by
  unfold Rd; dsimp only; split <;> infer_instance

theorem duties_bar (c : Dev nD) : (Rd X).duties (cell c 0) 0 = Finset.univ.filter fun j => hasNb (yc c) j.val = true := by
  rw [cell_zero]; dsimp only [Rd]; exact if_pos ⟨rfl, rfl⟩
theorem duties_dma (c : Dev nD) {k : ℕ} (h0 : k ≠ 0) (hk : k < 194) (ha : act (yc c) k = true) : (Rd X).duties (cell c k) 0 = {0} := by
  rw [cell_pos c h0]
  dsimp only [Rd]
  rw [dsem_val hk]
  exact (if_pos ⟨rfl, rfl⟩).trans (if_pos ⟨h0, ha⟩)
theorem duties_idle (c : Dev nD) {k : ℕ} (hk : k < 194) (ha : act (yc c) k = false) (r : ℕ) : (Rd X).duties (cell c k) r = ∅ := by
  have h0 : k ≠ 0 := fun e => by rw [e] at ha; exact absurd ha (by decide +revert)
  rw [cell_pos c h0]
  dsimp only [Rd]
  rw [dsem_val hk, ha, if_neg (c := k ≠ 0 ∧ false = true) (fun h => Bool.noConfusion h.2), ite_self]
theorem duties_later (g : GSem nD τ sig) (r : ℕ) (hr : 1 ≤ r) : (Rd X).duties g r = ∅ :=
  if_neg fun h => by omega

theorem amount_bar (c : Dev nD) (d) : (Rd X).amount (cell c 0) 0 d = 1 := by rw [cell_zero]; rfl
theorem amount_dma (c : Dev nD) {k : ℕ} (h0 : k ≠ 0) (hk : k < 194) (d) : (Rd X).amount (cell c k) 0 d = amt c k := by
  rw [cell_pos c h0]
  show (if (dsem k).val = 193 then _ else _) = _
  rw [dsem_val hk, amt, if_neg h0]

theorem payload_bar (c : Dev nD) (d) : (Rd X).payload (cell c 0) 0 d = all (mem X c) ((dutyKeys (yc c) d.val).map .dst) := by
  rw [cell_zero]; rfl
theorem payload_dma (c : Dev nD) {k : ℕ} (h0 : k ≠ 0) (hk : k < 194) (d) : (Rd X).payload (cell c k) 0 d = all (mem X c) (pay k) := by
  rw [cell_pos c h0]
  show all (mem X c) (pay (dsem k).val) = _
  rw [dsem_val hk]

theorem expect_dma (c : Dev nD) {k : ℕ} (h0 : k ≠ 0) (hk : k < 194) (ha : act (yc c) k = true) : (Rd X).expect (cell c k) 0 = amt c k := by
  unfold Schedule.expect Schedule.amountOf
  rw [duties_dma X c h0 hk ha, Finset.sum_singleton, amount_dma X c h0 hk]

theorem nbs_card : ∀ y : Fin 4, (Finset.univ.filter fun j : Fin 3 => hasNb y.val j.val = true).card = (nbs y.val).length := by decide +kernel

theorem expect_bar (c : Dev nD) : (Rd X).expect (cell c 0) 0 = amt c 0 := by
  unfold Schedule.expect Schedule.amountOf
  rw [duties_bar, Finset.sum_congr rfl fun d _ => amount_bar X c d, Finset.sum_const, smul_eq_mul, Nat.mul_one]
  exact nbs_card ⟨yc c, yc_lt c⟩

/-- What the one round of a used transfer semaphore hands over. -/
theorem rest_dma (c : Dev nD) {k : ℕ} (h0 : k ≠ 0) (hk : k < 194) (ha : act (yc c) k = true) :
    bigSep ((Rd X).duties (cell c k) 0 \ ∅) (fun d => (Rd X).payload (cell c k) 0 d) = all (mem X c) (pay k) := by
  rw [Finset.sdiff_empty, duties_dma X c h0 hk ha, bigSep_singleton, payload_dma X c h0 hk]

/-- The neighbours listed, as duties. -/
theorem nbs_list : ∀ y : Fin 4, ((nbs y.val).map (Fin.ofNat 3)).Nodup
    ∧ (∀ j : Fin 3, Iff (j ∈ (Finset.univ.filter fun j : Fin 3 => hasNb y.val j.val = true)) (j ∈ (nbs y.val).map (Fin.ofNat 3)))
    ∧ ∀ j ∈ nbs y.val, (Fin.ofNat 3 j).val = j := by decide +kernel

/-- What the one round of a barrier hands over. -/
theorem rest_bar (c : Dev nD) :
    bigSep ((Rd X).duties (cell c 0) 0 \ ∅) (fun d => (Rd X).payload (cell c 0) 0 d)
      = all (mem X c) ((nbs (yc c)).flatMap fun j => (dutyKeys (yc c) j).map .dst) := by
  obtain ⟨h1, h2, h3⟩ := nbs_list ⟨yc c, yc_lt c⟩
  rw [Finset.sdiff_empty, duties_bar, all_toList _ _ _ h1 h2, all_map, all_flatMap]
  refine all_congr fun j hj => ?_
  rw [payload_bar, h3 j hj]

/-- The memory of memory atoms. -/
theorem all_mem_dst (c : Dev nD) (A : List ℕ) : all (φ X c) (A.map .dst) = all (mem X c) (A.map .dst) := by
  rw [all_map, all_map]; rfl

theorem mem_src (c : Dev nD) (k : ℕ) : φ X c (src k) = mem X c (src k) := by
  unfold src; split
  · split <;> rfl
  · rfl

theorem all_mem_pay (c : Dev nD) (k : ℕ) : all (φ X c) (pay k) = all (mem X c) (pay k) := by
  unfold pay; split
  · rfl
  · split
    · rw [all_one, all_one, mem_src]
    · split <;> rfl

end

end Cert.Ring

end
-- ==== Proof.Moves.lean ====
/-
# One lemma per kind of step

Each step of the plan, carried out by the operation of the program it stands for: from what the plan says the device
needs, to what the plan says it gets.
-/
module

public import proofs.«01_k».proof.Proof.Cells

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## What is owed, and in which order cells may wait for one another -/

/-- The cells with a level: every device's. -/
def L (g : GSem nD τ sig) : Finset Unit := if g.1.2 = .tc then {()} else ∅
/-- The level of a cell. -/
def lv (g : GSem nD τ sig) (_ : Unit) : ℕ := match g.2 with
  | .reg _ => 1
  | .dma q => if q.val = 0 then 0 else lev q.val

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) {k : ℕ} (hk : k < 194) (u : Unit) : lv (cell c k) u = lev k := by
  by_cases h0 : k = 0
  · rw [h0, cell_zero]; rfl
  · rw [cell_pos c h0]
    show (if (dsem k).val = 0 then 0 else lev (dsem k).val) = _
    rw [dsem_val hk, if_neg h0]

/-- What a step pays to another device. -/
def due (c : Dev nD) : Step → CellTallies nD τ sig Unit
  | .sig j => tallyAt (cell (sigTo c j) 0) () 1
  | .send k => tallyAt (cell (tgt c k) (k + 96)) () N
  | _ => 0

/-- What the steps still to come pay to other devices. -/
def owl (c : Dev nD) : List Step → CellTallies nD τ sig Unit
  | [] => 0
  | i :: l => owl c l + if guard (yc c) i = true then due c i else 0

theorem owl_do {c : Dev nD} {i : Step} (h : guard (yc c) i = true) (l : List Step) : owl c (i :: l) = owl c l + due c i := by
  show owl c l + _ = _; rw [if_pos h]
theorem owl_skip {c : Dev nD} {i : Step} (h : guard (yc c) i = false) (l : List Step) : owl c (i :: l) = owl c l := by
  show owl c l + _ = _; rw [if_neg (by rw [h]; exact Bool.false_ne_true), add_zero]

theorem tallyAt_pos {g g' : GSem nD τ sig} {n : ℕ} {u u' : Unit} (h : 0 < tallyAt g u n g' u') : g' = g := by
  rw [tallyAt_apply] at h
  by_contra hn
  rw [if_neg (fun h' => hn h'.1)] at h
  exact Nat.lt_irrefl 0 h

/-- A cell a step pays is a device's, at the level the plan says. -/
theorem due_pos {c : Dev nD} {i : Step} (hi : guard (yc c) i = true) {g : GSem nD τ sig} {u : Unit} (h : 0 < due c i g u) :
    g.1.2 = .tc ∧ ∃ n, owedLev i = some n ∧ lv g u = n := by
  cases i with
  | sig j => rw [tallyAt_pos h]; exact ⟨rfl, 1, rfl, lv_cell _ (by decide) _⟩
  | send k =>
    rw [tallyAt_pos h]
    refine ⟨rfl, _, rfl, lv_cell _ ?_ _⟩
    simp only [guard, Bool.and_eq_true, decide_eq_true_eq] at hi; omega
  | barrier n => exact absurd h (Nat.lt_irrefl 0)
  | wait k => exact absurd h (Nat.lt_irrefl 0)
  | own => exact absurd h (Nat.lt_irrefl 0)

/-- A cell owed is a device's, at the level of some step still to come. -/
theorem owl_pos {c : Dev nD} {l : List Step} {g : GSem nD τ sig} {u : Unit} (h : 0 < owl c l g u) :
    g.1.2 = .tc ∧ ∃ i ∈ l, guard (yc c) i = true ∧ ∃ n, owedLev i = some n ∧ lv g u = n := by
  induction l with
  | nil => exact absurd h (Nat.lt_irrefl 0)
  | cons i l ih =>
    by_cases hi : guard (yc c) i = true
    · rw [owl_do hi, Pi.add_apply, Finsupp.add_apply] at h
      rcases Nat.add_pos_iff_pos_or_pos.1 h with h | h
      · obtain ⟨h1, j, hj, h2⟩ := ih h
        exact ⟨h1, j, List.mem_cons_of_mem _ hj, h2⟩
      · obtain ⟨h1, h2⟩ := due_pos hi h
        exact ⟨h1, i, List.mem_cons_self, hi, h2⟩
    · rw [owl_skip (Bool.eq_false_iff.2 hi)] at h
      obtain ⟨h1, j, hj, h2⟩ := ih h
      exact ⟨h1, j, List.mem_cons_of_mem _ hj, h2⟩

/-- A device may wait on a cell when everything it still owes is above it. -/
theorem mayWait (c : Dev nD) (sm : SemLoc sig) (n : ℕ) (hn : lv ((c : Thread nD τ), sm) () ≤ n) {l : List Step}
    (h : above (yc c) n l = true) : (levAts L lv : sProp 𝕄) ⊢ MayWait (c : Thread nD τ) sm () (owl c l) := by
  refine MayOwe.of_cut (L := L) (lev := lv) n (fun p hp => by rw [Finset.mem_singleton.mp hp, L_tc]; exact Finset.mem_singleton_self _)
    (fun g u hg => ?_) (fun p hp => by rw [Finset.mem_singleton.mp hp]; exact hn) (fun g u hg => ?_)
  · rw [L, if_pos (owl_pos hg).1]; exact Finset.mem_singleton_self _
  · obtain ⟨-, i, hi, h1, n', h2, h3⟩ := owl_pos hg
    rw [h3]
    have := List.all_eq_true.1 h i hi
    rw [h1, h2] at this
    exact of_decide_eq_true this

/-! ## What every device knows -/

section
variable (X : Dev nD → S2048x512.Idx → Elt F .f32) (K : Dev nD × Fin 194 → ℕ)

/-- Every cell's record, and that every cell has reached its round. -/
def records : sProp 𝕄 :=
  iprop((bigSep Finset.univ fun ck : Dev nD × Fin 194 => cellInv ER (Rd X) (K ck) (cell ck.1 ck.2.val))
    ∗ bigSep Finset.univ fun ck : Dev nD × Fin 194 => reached ER (cell ck.1 ck.2.val) 0)

instance records_persistent : BI.Persistent (records X K) := by unfold records; infer_instance

/-- The records and the levels. -/
def known : sProp 𝕄 := iprop(records X K ∗ levAts L lv)

instance known_persistent : BI.Persistent (known X K) := by unfold known; infer_instance

/-- The name of a cell's record. -/
def nm (c : Dev nD) (k : ℕ) : ℕ := if h : k < 194 then K (c, ⟨k, h⟩) else 0

theorem inv_of (ck : Dev nD × Fin 194) :
    (bigSep Finset.univ fun ck : Dev nD × Fin 194 => (cellInv ER (Rd X) (K ck) (cell ck.1 ck.2.val) : sProp 𝕄)) ⊢ cellInv ER (Rd X) (K ck) (cell ck.1 ck.2.val) :=
  bigSep_elim (Finset.mem_univ ck)
theorem reached_of (ck : Dev nD × Fin 194) :
    (bigSep Finset.univ fun ck : Dev nD × Fin 194 => (reached ER (cell ck.1 ck.2.val) 0 : sProp 𝕄)) ⊢ reached ER (cell ck.1 ck.2.val) 0 :=
  bigSep_elim (Finset.mem_univ ck)

theorem inv_at (c : Dev nD) {k : ℕ} (hk : k < 194) : known X K ⊢ cellInv ER (Rd X) (nm K c k) (cell c k) := by
  unfold known records nm
  rw [dif_pos hk]
  iintro ⟨⟨HI, -⟩, -⟩
  iapply (inv_of X K (c, (⟨k, hk⟩ : Fin 194)))
  iexact HI
theorem reached_at (c : Dev nD) {k : ℕ} (hk : k < 194) : known X K ⊢ (reached ER (cell c k) 0 : sProp 𝕄) := by
  unfold known records
  iintro ⟨⟨-, HR⟩, -⟩
  iapply (reached_of (F := F) (c, (⟨k, hk⟩ : Fin 194)))
  iexact HR
theorem known_mayWait (c : Dev nD) (sm : SemLoc sig) (n : ℕ) (hn : lv ((c : Thread nD τ), sm) () ≤ n) {l : List Step}
    (h : above (yc c) n l = true) : known X K ⊢ (MayWait (c : Thread nD τ) sm () (owl c l) : sProp 𝕄) := by
  unfold known
  iintro ⟨-, H⟩
  iapply (mayWait (F := F) c sm n hn h)
  iexact H

/-- Carrying out the effect `e` is taking the step `i`. -/
def Does (c : Dev nD) (i : Step) (e : TpuEff nD τ sig (Elt F) Λ₀ .tc PUnit) : Prop :=
  ∀ (l : List Step) (B : List Atom) (W : Waits sig Unit) {α : Type} (k : PUnit → Prog (TpuEff nD τ sig (Elt F) Λ₀ .tc) α) (Q : α → sProp 𝕄),
    (match waits i with
      | some k => above (yc c) (lev k) l
      | none => true) = true →
    (∀ W', iprop(known X K ∗ all (φ X c) (give (yc c) i ++ B) ∗ owes (c : Thread nD τ) (owl c l) W')
      ⊢ wp frame (wpE (defs₀ (F := F)) 𝒱₀ c none) Set.univ (k ⟨⟩) Q) →
    iprop(known X K ∗ all (φ X c) (need (yc c) i) ∗ all (φ X c) B ∗ owes (c : Thread nD τ) (owl c l + due c i) W)
      ⊢ wp frame (wpE (defs₀ (F := F)) 𝒱₀ c none) Set.univ (.op e k) Q

/-! ## Signals -/

/-- The rows a signal hands over are the rows its duty promises the receiver. -/
theorem sig_facts : ∀ c : Dev nD, ∀ j : Fin 3, hasNb (yc c) j.val = true →
    hasNb (yc (sigTo c j)) (sigDuty j).val = true
    ∧ sigKeys (yc c) j = (dutyKeys (yc (sigTo c j)) (sigDuty j).val).map (· + 96)
    ∧ ∀ k ∈ dutyKeys (yc (sigTo c j)) (sigDuty j).val, tgt (sigTo c j) k = c := by decide +kernel

theorem slots_dsts (c : Dev nD) (j : Fin 3) (h : hasNb (yc c) j.val = true) :
    all (φ X c) ((sigKeys (yc c) j).map .slot) = all (mem X (sigTo c j)) ((dutyKeys (yc (sigTo c j)) (sigDuty j).val).map .dst) := by
  obtain ⟨-, h1, h2⟩ := sig_facts c j h
  rw [h1, all_map, all_map, all_map]
  refine all_congr fun k hk => ?_
  show mem X c (.slot (k + 96)) = mem X (sigTo c j) (.dst k)
  rw [mem_slot, mem_dst, h2 k hk]

/-- A signal. -/
theorem does_sig (c : Dev nD) (j : Fin 3) (hg : guard (yc c) (.sig j) = true) (d : Dev nD) (hd : d = sigTo c j) :
    Does X K c (.sig j) (.semSignal (d, .tc) barS ((1 : ℕ) : ℤ)) := by
  intro l B W α k Q _ hk
  subst hd
  have hnb : hasNb (yc c) j.val = true := hg
  have hO : owl c l + due c (.sig j) = owl c l + tallyAt ((sigTo c j : Thread nD τ), .reg barS) () 1 := by
    show owl c l + tallyAt (cell (sigTo c j) 0) () 1 = _; rw [cell_zero]
  have e1 := inv_at X K (sigTo c j) (k := 0) (by decide)
  have e2 := reached_at X K (sigTo c j) (k := 0) (by decide)
  have e3 := payload_bar X (sigTo c j) (sigDuty j)
  rw [cell_zero] at e1 e2 e3
  rw [show need (yc c) (.sig j) = .btok j :: (sigKeys (yc c) j).map .slot from rfl, all_cons, slots_dsts X c j hnb, φ_btok, cell_zero]
  iintro ⟨#HK, ⟨Ht, Hs⟩, HB, HO⟩
  ihave HI := e1 $$ HK
  ihave HR := e2 $$ HK
  iapply (Rounds.wp_signal 𝒱₀ ER (Rd X) (c : Thread nD τ) none (dst := (sigTo c j : Thread nD τ)) (κ := nm K (sigTo c j) 0) (r := 0)
      (d := sigDuty j) (by rw [← cell_zero, duties_bar]; exact Finset.mem_filter.2 ⟨Finset.mem_univ _, (sig_facts c j hnb).1⟩)
      (by rw [← cell_zero]; exact amount_bar X _ _) () (owl c l) hO) $$ [HI HR HO Ht Hs]
  · isplitl [HI]; · iexact HI
    isplitl [HO]; · iexact HO
    isplitl [Ht]; · iexact Ht
    isplitl [Hs]
    · iapply (Entails.of_eq e3.symm); iexact Hs
    iexact HR
  iintro HO
  iapply (hk W)
  isplitr; · iexact HK
  isplitl [HB]; · iexact HB
  iexact HO

/-! ## Waits -/

/-- The wait on the barrier. -/
theorem does_barrier (c : Dev nD) (n : ℕ) (hg : guard (yc c) (.barrier n) = true) : Does X K c (.barrier n) (.semWait barS (n : ℤ)) := by
  intro l B W α k Q hw hk
  have hn : (nbs (yc c)).length = n := Nat.eq_of_beq_eq_true hg
  have ha : amt c 0 = n := hn
  rw [show need (yc c) (.barrier n) = [.pos 0, .crd 0] from rfl, all_cons, all_one,
    show owl c l + due c (.barrier n) = owl c l from add_zero _]
  have e1 := inv_at X K c (k := 0) (by decide)
  have e3 := rest_bar X c
  have e4 := φ_done X c 0
  have e5 := known_mayWait X K c (.reg barS) 1 (by rw [← cell_zero, lv_cell _ (by decide)]; exact Nat.le_refl _) hw
  rw [cell_zero] at e1 e3 e4
  rw [φ_pos, φ_crd, ha, cell_zero]
  iintro ⟨#HK, ⟨Hp, Hc⟩, HB, HO⟩
  ihave HI := e1 $$ HK
  ihave HL := e5 $$ HK
  iapply (Rounds.wp_wait_rest_token 𝒱₀ ER (Rd X) (c : Thread nD τ) none (κ := nm K c 0)
      (wpE_semWait_eq 𝒱₀ (c : Thread nD τ) none Set.univ) (Set.mem_univ _) () (O := owl c l) (W := W) (R := 0) (m := 0) (T := ∅)
      (by rw [← cell_zero, expect_bar, ha, Nat.zero_add])) $$ [HI HL Hc HO Hp]
  · isplitl [HI]; · iexact HI
    isplitl [Hc]; · iexact Hc
    isplitl [HO]; · iexact HO
    isplitl [HL]
    · iexact HL
    iexact Hp
  iintro ⟨HO, Hp, -, Hpay⟩
  iapply (hk (insert (SemLoc.reg barS, ()) W))
  isplitr; · iexact HK
  isplitr [HO]
  · iapply (Entails.of_eq (show iprop((φ X c (.done 0) ∗ all (mem X c) ((nbs (yc c)).flatMap fun j => (dutyKeys (yc c) j).map .dst)) ∗ all (φ X c) B)
        = all (φ X c) (give (yc c) (.barrier n) ++ B) by
      rw [all_append]
      show _ = iprop(all (φ X c) (.done 0 :: (nbs (yc c)).flatMap fun j => (dutyKeys (yc c) j).map .dst) ∗ _)
      rw [all_cons, all_flatMap, all_flatMap]
      simp only [all_mem_dst]))
    isplitr [HB]
    · isplitl [Hp]
      · iapply (Entails.of_eq e4.symm); iexact Hp
      · iapply (Entails.of_eq e3); iexact Hpay
    iexact HB
  iexact HO

/-- The wait on a transfer semaphore. -/
theorem does_wait (c : Dev nD) (k : ℕ) (hg : guard (yc c) (.wait k) = true) {s : DmaSem sig} (hs : s = dsem k)
    {sp sp' : Space} {sh sh' : Shape} {e e' : EltTy} {src : Memref sig .tc sp' sh' e'} {dst : Memref sig .tc sp sh e}
    (hc : dst.view.dmaCredit = amt c k) {hsrc : src.view.WordExact} {hdst : dst.view.WordExact} :
    Does X K c (.wait k) (.waitDma2 s src dst hsrc hdst) := by
  intro l B W α cont Q hw hk
  subst hs
  simp only [guard, Bool.and_eq_true, decide_eq_true_eq] at hg
  obtain ⟨ha, h0, h1⟩ := hg
  have h0 : k ≠ 0 := Nat.ne_of_gt h0
  rw [show need (yc c) (.wait k) = [.pos k, .crd k] from rfl, all_cons, all_one,
    show owl c l + due c (.wait k) = owl c l from add_zero _]
  have e1 := inv_at X K c (k := k) h1
  have e3 := rest_dma X c h0 h1 ha
  have e4 := φ_done X c k
  have e5 := known_mayWait X K c (csem k) (lev k) (Nat.le_of_eq (lv_cell c h1 ())) hw
  have e6 := expect_dma X c h0 h1 ha
  rw [cell_pos c h0] at e1 e3 e4 e6
  rw [csem_pos h0] at e5
  rw [φ_pos, φ_crd, cell_pos c h0, ← hc]
  iintro ⟨#HK, ⟨Hp, Hc⟩, HB, HO⟩
  ihave HI := e1 $$ HK
  ihave HL := e5 $$ HK
  iapply (Rounds.wp_wait_rest_token 𝒱₀ ER (Rd X) (c : Thread nD τ) none (κ := nm K c k)
      (wpE_waitDma2_eq 𝒱₀ (c : Thread nD τ) none Set.univ) (Set.mem_univ _) () (O := owl c l) (W := W) (R := 0) (m := 0) (T := ∅)
      (by rw [e6, hc, Nat.zero_add])) $$ [HI HL Hc HO Hp]
  · isplitl [HI]; · iexact HI
    isplitl [Hc]; · iexact Hc
    isplitl [HO]; · iexact HO
    isplitl [HL]
    · iexact HL
    iexact Hp
  iintro ⟨HO, Hp, -, Hpay⟩
  iapply (hk (insert (SemLoc.dma (dsem k), ()) W))
  isplitr; · iexact HK
  isplitr [HO]
  · iapply (Entails.of_eq (show iprop((φ X c (.done k) ∗ all (mem X c) (pay k)) ∗ all (φ X c) B)
        = all (φ X c) (give (yc c) (.wait k) ++ B) by
      rw [all_append]
      show _ = iprop(all (φ X c) (.done k :: pay k) ∗ _)
      rw [all_cons, all_mem_pay]))
    isplitr [HB]
    · isplitl [Hp]
      · iapply (Entails.of_eq e4.symm); iexact Hp
      · iapply (Entails.of_eq e3); iexact Hpay
    iexact HB
  iexact HO

/-! ## Copies -/

/-- The share of its block the local copy reads is all the block's rows. -/
theorem mem_xOwn (c : Dev nD) : φ X c .xOwn = (sLoc c ↦{fullShare.left} X c) := rfl
theorem mem_ownDst (c : Dev nD) : φ X c .ownDst = iprop(∃ f, oPts c (2048 * yc c) 2048 fullShare f) := rfl

theorem act_own (y : ℕ) : act y 193 = true := by unfold act; rw [if_neg (by decide), if_pos rfl]
theorem guard_own (y : ℕ) : guard y (.wait 193) = true := by unfold guard; dsimp only; rw [act_own]; rfl

theorem amt_own (c : Dev nD) : amt c 193 = Nown := by unfold amt; rw [if_neg (by decide), if_pos rfl]

theorem xOwn_view (c : Dev nD) : (sLoc c ↦{fullShare.left} X c : sProp 𝕄)
    = ((Memref.whole cc0_stg0_0).view.loc (c : Thread nD τ) ↦[(Memref.whole cc0_stg0_0).view.set]{fullShare.left} X c) :=
  congrArg (fun S => (sLoc c ↦[S]{fullShare.left} X c : sProp 𝕄)) (View.set_whole cc0_stg0_0).symm

theorem amount_oSl (off h) (s : DmaSem sig) : (oSl off h).view.amount (.dma s) = N := rfl
theorem amount_oOwn (off h) (s : DmaSem sig) : (oOwn off h).view.amount (.dma s) = Nown := rfl

/-- The start of the local copy. -/
theorem does_own (c : Dev nD) {s : DmaSem sig} (hs : s = dsem 193) {off : Fin 2 → ℕ} {h} (h1 : off 1 = 0) (h0 : off 0 = 2048 * yc c)
    {hsrc hdst hsem} : Does X K c .own (.enqueueDma (Memref.whole cc0_stg0_0) (.here (oOwn off h)) (.dma s) hsrc hdst hsem) := by
  intro l B W α cont Q hw hk
  subst hs
  have hset := oOwn_set off h h1
  rw [h0] at hset
  have ha : act (yc c) 193 = true := act_own _
  rw [show need (yc c) .own = [.tok 193, .ownDst, .xOwn] from rfl, all_cons, all_cons, all_one,
    show owl c l + due c .own = owl c l from add_zero _]
  have e1 := inv_at X K c (k := 193) (by decide)
  have e2 := reached_at X K c (k := 193) (by decide)
  have e3 := payload_dma X c (k := 193) (by decide) (by decide) 0
  have e4 := φ_crd X c 193
  rw [amt_own] at e4
  have e6 := duties_dma X c (k := 193) (by decide) (by decide) ha
  have e7 := (amount_dma X c (k := 193) (by decide) (by decide) 0).trans (amt_own c)
  rw [cell_pos c (by decide)] at e1 e2 e3 e4 e6 e7
  rw [φ_tok_own, mem_ownDst, mem_xOwn, cell_pos c (by decide)]
  iintro ⟨#HK, ⟨Ht, ⟨%f, Hd⟩, Hx⟩, HB, HO⟩
  ihave HI := e1 $$ HK
  ihave HR := e2 $$ HK
  iapply (Rounds.wp_copy_pointsTo 𝒱₀ ER (Rd X) (c : Thread nD τ) none (src := Memref.whole cc0_stg0_0) (dst := oOwn off h) (sem := .dma (dsem 193)) (hsrc := hsrc) (hdst := hdst) (hsem := hsem) (κ := nm K c 193)
      (r := 0) (d := 0) (q := fullShare.left) (fs := X c) (fd := f) (by rw [e6]; exact Finset.mem_singleton_self _) () Nown (amount_oOwn off h _) e7 (by
        rw [e3]
        show _ ⊢ all (mem X c) [.ownOut, .xOwn]
        rw [all_cons, all_one]
        refine BI.sep_mono ?_ ?_
        · rw [hset]
          refine Entails.of_eq (pointsTo_congr fun i hi => ?_)
          exact write_own h1 (by rw [h0]; exact Nat.mul_mod_right _ _) f (X c) (by rw [h0]; exact hi)
        · exact Entails.of_eq (xOwn_view X c).symm)) $$ [HI HR Hd Hx Ht]
  · isplitl [HI]; · iexact HI
    isplitl [Hx]
    · iapply (Entails.of_eq (xOwn_view X c)); iexact Hx
    isplitl [Hd]
    · iapply (Entails.of_eq (show oPts c (2048 * yc c) 2048 fullShare f = _ by unfold oPts; rw [hset])); iexact Hd
    isplitl [Ht]; · iexact Ht
    iexact HR
  iintro Hc
  iapply (hk W)
  isplitr; · iexact HK
  isplitr [HO]
  · iapply (Entails.of_eq (show iprop(φ X c (.crd 193) ∗ all (φ X c) B) = all (φ X c) (give (yc c) .own ++ B) by
      rw [all_append]
      show _ = iprop(all (φ X c) [.crd 193] ∗ _)
      rw [all_one]))
    isplitl [Hc]
    · iapply (Entails.of_eq e4.symm); iexact Hc
    iexact HB
  iexact HO

/-- The receiver of a send gets its rows holding what everyone at its place of the third axis holds. -/
theorem arrives (c : Dev nD) (k : ℕ) (hk : k < 97) (h0 : k ≠ 0) (hz : zc (tgt c k) = zc c) :
    oPts (tgt c k) (rowOf (tgt c k) (k + 96)) 128 fullShare (gl X (zc c)) ⊢ all (mem X (tgt c k)) (pay (k + 96)) := by
  have h1 : k + 96 ≠ 193 := by omega
  have h2 : ¬ arr (k + 96) < 4 := by unfold arr; omega
  rw [pay, if_neg h1, if_neg h2]
  split
  · rw [all_cons, all_one]
    show _ ⊢ iprop(oPts (tgt c k) (rowOf (tgt c k) (k + 96)) 128 fullShare.left (gl X (zc (tgt c k)))
      ∗ oPts (tgt c k) (rowOf (tgt c k) (k + 96)) 128 fullShare.right (gl X (zc (tgt c k))))
    rw [hz]
    exact (pointsTo_share (PosShare.mem_left_op_right fullShare)).1
  · rw [all_one]
    show _ ⊢ oPts (tgt c k) (rowOf (tgt c k) (k + 96)) 128 fullShare (gl X (zc (tgt c k)))
    rw [hz]

/-- A send, from wherever its rows are: the source's atom is a share of the source, and the rows arrive as everyone at
    the sender's place of the third axis holds them. -/
theorem does_send (c : Dev nD) (k : ℕ) (hg : guard (yc c) (.send k) = true) {d : Dev nD} (hd : d = tgt c k)
    {s₁ s₂ : DmaSem sig} (hs₁ : s₁ = dsem k) (hs₂ : s₂ = dsem (k + 96))
    {off : Fin 2 → ℕ} {h} (h1 : off 1 = 0) (h0 : off 0 = rowOf (tgt c k) (k + 96))
    {sp : Space} {sr : Memref sig .tc sp S128x512 .f32} {q : PosShare TreeShare} {fs : Buf (Elt F) (sr.view.loc (c : Thread nD τ))}
    (hm : mem X c (src k) = (sr.view.loc (c : Thread nD τ) ↦[sr.view.set]{q} fs))
    (hv : ∀ fd : S8192x512.Idx → Elt F .f32, ∀ i ∈ rows (off 0) 128,
      (oSl off h).view.write (Elt F) fd (sr.view.read (Elt F) fs) Finset.univ i = gl X (zc c) i)
    {hsc hsrc hdst hsem} :
    Does X K c (.send k) (.enqueueDma sr (.remote (Dev.tc d : Thread nD τ) (oSl off h) (.dma s₁) hsc) (.dma s₂) hsrc hdst hsem) := by
  intro l B W α cont Q hw hk
  subst hs₁ hs₂ hd
  simp only [guard, Bool.and_eq_true, decide_eq_true_eq] at hg
  obtain ⟨ha, hp, hlt⟩ := hg
  have hk0 : k ≠ 0 := Nat.ne_of_gt hp
  obtain ⟨hz, ha', -⟩ := send_facts c ⟨k, hlt⟩ hk0 ha
  replace hz : zc (tgt c k) = zc c := hz
  replace ha' : act (yc (tgt c k)) (k + 96) = true := ha'
  have hN1 : amt c k = N := by rw [amt, if_neg hk0, if_neg (by omega)]
  have hN2 : amt (tgt c k) (k + 96) = N := by rw [amt, if_neg (by omega), if_neg (by omega)]
  have hset := oSl_set off h h1
  rw [show need (yc c) (.send k) = [.tok k, .dst k, src k] from rfl, all_cons, all_cons, all_one, φ_tok X c (by omega), mem_src, hm]
  have hO : owl c l + due c (.send k) = owl c l + tallyAt ((tgt c k : Thread nD τ), .dma (dsem (k + 96))) () N := by
    show owl c l + tallyAt (cell (tgt c k) (k + 96)) () N = _; rw [cell_pos _ (by omega)]
  have e1 := inv_at X K c (k := k) (by omega)
  have e2 := reached_at X K c (k := k) (by omega)
  have e3 := inv_at X K (tgt c k) (k := k + 96) (by omega)
  have e4 := reached_at X K (tgt c k) (k := k + 96) (by omega)
  have p1 := payload_dma X c (k := k) hk0 (by omega) 0
  have p2 := payload_dma X (tgt c k) (k := k + 96) (by omega) (by omega) 0
  have d1 := duties_dma X c (k := k) hk0 (by omega) ha
  have d2 := duties_dma X (tgt c k) (k := k + 96) (by omega) (by omega) ha'
  have a1 := (amount_dma X c (k := k) hk0 (by omega) 0).trans hN1
  have a2 := (amount_dma X (tgt c k) (k := k + 96) (by omega) (by omega) 0).trans hN2
  have c1 := φ_crd X c k
  rw [hN1] at c1
  rw [cell_pos c hk0] at e1 e2 p1 d1 a1 c1
  rw [cell_pos (tgt c k) (by omega)] at e3 e4 p2 d2 a2
  have hpay : pay k = [src k] := by
    rw [pay, if_neg (by omega), if_pos (by unfold arr; omega)]
  rw [hpay, all_one, hm] at p1
  have hdst' : (φ X c (.dst k) : sProp 𝕄) = iprop(∃ f, oPts (tgt c k) (rowOf (tgt c k) (k + 96)) 128 fullShare f) := rfl
  rw [hdst', cell_pos c hk0, cell_pos (tgt c k) (by omega)]
  iintro ⟨#HK, ⟨⟨Ht1, Ht2⟩, ⟨%f, Hd⟩, Hx⟩, HB, HO⟩
  ihave HI1 := e1 $$ HK
  ihave HR1 := e2 $$ HK
  ihave HI2 := e3 $$ HK
  ihave HR2 := e4 $$ HK
  iapply (Rounds.wp_send_pointsTo 𝒱₀ ER (Rd X) (c : Thread nD τ) none (c' := (tgt c k : Thread nD τ)) (src := sr) (dst := oSl off h) (sS := .dma (dsem k)) (sem := .dma (dsem (k + 96))) (hsrc := hsrc) (hdst := hdst) (hsem := hsem) (κ₁ := nm K c k) (κ₂ := nm K (tgt c k) (k + 96))
      (r₁ := 0) (r₂ := 0) (d₁ := 0) (d₂ := 0) (q := q) (fs := fs) (fd := f)
      (by rw [d1]; exact Finset.mem_singleton_self _) (by rw [d2]; exact Finset.mem_singleton_self _) () () N (amount_oSl off h _) a1 a2 (owl c l) hO (W := W)
      (by rw [p1]) (by
        rw [p2]
        refine Entails.trans (Entails.of_eq ?_) (arrives X c k hlt hk0 hz)
        unfold oPts
        rw [← h0, hset]
        exact pointsTo_congr fun i hi => hv f i hi)) $$ [HI1 HI2 HR1 HR2 Hd Hx Ht1 Ht2 HO]
  · isplitl [HI1]; · iexact HI1
    isplitl [HI2]; · iexact HI2
    isplitl [Hx]; · iexact Hx
    isplitl [Hd]
    · iapply (Entails.of_eq (show oPts (tgt c k) (rowOf (tgt c k) (k + 96)) 128 fullShare f = _ by unfold oPts; rw [← h0, hset])); iexact Hd
    isplitl [HO]; · iexact HO
    isplitl [Ht1]; · iexact Ht1
    isplitl [HR1]; · iexact HR1
    isplitl [Ht2]; · iexact Ht2
    iexact HR2
  iintro ⟨Hc, HO⟩
  iapply (hk W)
  isplitr; · iexact HK
  isplitr [HO]
  · iapply (Entails.of_eq (show iprop(φ X c (.crd k) ∗ all (φ X c) B) = all (φ X c) (give (yc c) (.send k) ++ B) by
      rw [all_append]
      show _ = iprop(all (φ X c) [.crd k] ∗ _)
      rw [all_one]))
    isplitl [Hc]
    · iapply (Entails.of_eq c1.symm); iexact Hc
    iexact HB
  iexact HO

/-- A first-round send along the gather's axis, from the device's own block. -/
theorem does_send_i (c : Dev nD) (k : ℕ) (hg : guard (yc c) (.send k) = true) (hr : arr k < 2 ∧ stp k = 0) {d : Dev nD} (hd : d = tgt c k)
    {s₁ s₂ : DmaSem sig} (hs₁ : s₁ = dsem k) (hs₂ : s₂ = dsem (k + 96))
    {off off' : Fin 2 → ℕ} {h h'} (h1 : off 1 = 0) (h0 : off 0 = rowOf (tgt c k) (k + 96)) (h1' : off' 1 = 0)
    (h0' : off' 0 = 1024 * xc c + 128 * sub k) {hsc hsrc hdst hsem} :
    Does X K c (.send k) (.enqueueDma (iSl off' h') (.remote (Dev.tc d : Thread nD τ) (oSl off h) (.dma s₁) hsc) (.dma s₂) hsrc hdst hsem) := by
  have hg' := hg
  simp only [guard, Bool.and_eq_true, decide_eq_true_eq] at hg'
  have hrow := (send_facts c ⟨k, hg'.2.2⟩ (Nat.ne_of_gt hg'.2.1) hg'.1).2.2.1 hr.1 hr.2
  replace hrow : rowOf (tgt c k) (k + 96) = 2048 * yc c + (1024 * xc c + 128 * sub k) := hrow
  refine does_send X K c k hg hd hs₁ hs₂ h1 h0 (q := xshare k) (fs := X c) ?_ fun fd i hi => ?_
  · rw [src, if_pos hr.1, if_pos hr.2]
    show sPts X c _ 128 _ = _
    unfold sPts
    rw [iSl_set off' h' h1', h0']
  · have hi' := hi
    rw [h0, hrow] at hi'
    obtain ⟨g1, g2⟩ := gl_own X c k hi'
    rw [g2]
    refine write_oi h1 h1' fd (X c) hi ?_
    rw [h0', h0, hrow]
    exact g1

/-- Any other send, from rows received before. -/
theorem does_send_o (c : Dev nD) (k : ℕ) (hg : guard (yc c) (.send k) = true) (hr : ¬ (arr k < 2 ∧ stp k = 0)) {d : Dev nD} (hd : d = tgt c k)
    {s₁ s₂ : DmaSem sig} (hs₁ : s₁ = dsem k) (hs₂ : s₂ = dsem (k + 96))
    {off off' : Fin 2 → ℕ} {h h'} (h1 : off 1 = 0) (h0 : off 0 = rowOf (tgt c k) (k + 96)) (h1' : off' 1 = 0)
    (h0' : off' 0 = off 0) {hsc hsrc hdst hsem} :
    Does X K c (.send k) (.enqueueDma (oSl off' h') (.remote (Dev.tc d : Thread nD τ) (oSl off h) (.dma s₁) hsc) (.dma s₂) hsrc hdst hsem) := by
  have hg' := hg
  simp only [guard, Bool.and_eq_true, decide_eq_true_eq] at hg'
  obtain ⟨-, -, -, r1, r2⟩ := send_facts c ⟨k, hg'.2.2⟩ (Nat.ne_of_gt hg'.2.1) hg'.1
  replace r1 : arr k < 2 → stp k ≠ 0 → rowOf (tgt c k) (k + 96) = rowOf c (k + 88) := r1
  replace r2 : ¬ arr k < 2 → rowOf (tgt c k) (k + 96) = rowOf c (k + 48) := r2
  refine does_send X K c k hg hd hs₁ hs₂ h1 h0 (q := if arr k < 2 then fullShare.left else fullShare.right) (fs := gl X (zc c)) ?_ fun fd i hi => ?_
  · rw [oSl_set off' h' h1', h0', h0]
    by_cases ha : arr k < 2
    · rw [src, if_pos ha, if_neg (fun h => hr ⟨ha, h⟩), if_pos ha, r1 ha (fun h => hr ⟨ha, h⟩)]; rfl
    · rw [src, if_neg ha, if_neg ha, r2 ha]; rfl
  · exact write_oo h0' h1 h1' fd _ hi

end

end Cert.Ring

end
-- ==== Proof.Deal.lean ====
/-
# Dealing the launch's tokens and credits out to the devices

The launch mints every token at the cell it pays; a device holds the tokens of the cells it pays on its neighbours. Its
credits are what all devices together owe its cells.
-/
module

public import proofs.«01_k».proof.Proof.Moves

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Lists

variable {M : Type} [URA M] {T : Type}

/-- What numbers below `n` stand for, as a set and as a list. -/
theorem all_range (Φ : ℕ → sProp M) (n : ℕ) : bigSep Finset.univ (fun k : Fin n => Φ k.val) = all Φ (List.range n) := by
  rw [all_toList _ _ (List.finRange n) (List.nodup_finRange n) (fun a => by simp), ← List.map_coe_finRange_eq_range, all_map]

/-- Entries may be dropped. -/
theorem all_sublist (φ : T → sProp M) {A B : List T} (h : A.Sublist B) : all φ B ⊢ all φ A := by
  induction h with
  | slnil => exact BI.Entails.refl _
  | cons a _ ih => rw [all_cons]; exact BI.Entails.trans (BI.Entails.trans BI.sep_and and_elimR) ih
  | cons_cons a _ ih => rw [all_cons, all_cons]; exact BI.sep_mono (BI.Entails.refl _) ih

/-- Dealing around: every device hands each entry on to the device the entry's pairing says. -/
theorem all_deal {D : Type} [Fintype D] (e : T → D ≃ D) (P : D → T → sProp M) (A : List T) :
    bigSep Finset.univ (fun c => all (P c) A) = bigSep Finset.univ (fun c => all (fun j => P (e j c) j) A) := by
  induction A with
  | nil => rfl
  | cons a A ih =>
    simp only [all_cons]
    rw [bigSep_sep', bigSep_sep', ih, bigSep_univ_equiv (e a) fun c => P c a]

end Lists

variable {F : FTy → Type} [FloatOps F]

local notation "𝕄" => MT nD τ sig Unit (Elt F) ℕ UU ℕ

/-! ## Tokens -/

/-- The tokens of a device's own cells, as minted. -/
def minted (c : Dev nD) : sProp 𝕄 :=
  bigSep Finset.univ fun k : Fin 194 => bigSep Finset.univ fun j : Fin 3 => dutyTok ER (cell c k.val) 0 j

/-- The first duty's token of a key. -/
def tk (c : Dev nD) (k : ℕ) : sProp 𝕄 := dutyTok ER (cell c k) 0 0
/-- The token of the barrier a signal pays. -/
def bk (c : Dev nD) (j : ℕ) : sProp 𝕄 := dutyTok ER (cell c 0) 0 (sigDuty j)
/-- The keys of the sends. -/
def sends : List ℕ := (List.range 96).map (1 + ·)

theorem range_split : List.range 194 = [0] ++ sends ++ sends.map (· + 96) ++ [193] := by decide +kernel

/-- The minted tokens that are used, by what they pay. -/
theorem minted_used (c : Dev nD) : (minted c : sProp 𝕄)
    ⊢ iprop(all (bk c) [0, 1, 2] ∗ all (tk c) sends ∗ all (fun k => tk c (k + 96)) sends ∗ tk c 193) := by
  have e0 : (bigSep Finset.univ fun j : Fin 3 => (dutyTok ER (cell c 0) 0 j : sProp 𝕄)) = all (bk c) [0, 1, 2] := by
    rw [all_toList _ _ [0, 2, 1] (by decide) (by decide)]; rfl
  have e1 (k : ℕ) : (bigSep Finset.univ fun j : Fin 3 => (dutyTok ER (cell c k) 0 j : sProp 𝕄)) ⊢ tk c k := bigSep_elim (Finset.mem_univ 0)
  unfold minted
  rw [all_range (fun k => bigSep Finset.univ fun j : Fin 3 => (dutyTok ER (cell c k) 0 j : sProp 𝕄)), range_split,
    all_append, all_append, all_append, all_one, all_one, all_map, e0, brackets, brackets]
  exact BI.sep_mono (BI.Entails.refl _) (BI.sep_mono (all_mono fun k _ => e1 k) (BI.sep_mono (all_mono fun k _ => e1 _) (e1 193)))

/-- The pairing of devices a signal follows. -/
def sigE (j : ℕ) : Dev nD ≃ Dev nD := if j = 0 then peers else if j = 1 then rights.symm else rights
/-- The pairing of devices a send follows. -/
def tgtE (k : ℕ) : Dev nD ≃ Dev nD := if arr k = 0 then rights.symm else if arr k = 1 then rights else peers

theorem sigE_apply (j : ℕ) (c : Dev nD) : sigE j c = sigTo c j := by
  unfold sigE sigTo; split
  · rfl
  · split <;> rfl
theorem tgtE_apply (k : ℕ) (c : Dev nD) : tgtE k c = tgt c k := by
  unfold tgtE tgt; split
  · rfl
  · split <;> rfl

/-- The tokens a device starts with. -/
def payToks (X : Dev nD → S2048x512.Idx → Elt F .f32) (c : Dev nD) : sProp 𝕄 :=
  all (φ X c) ((nbs (yc c)).map .btok ++ ([0, 1, 2, 3].flatMap (keys (yc c)) ++ [193]).map .tok)

theorem start_toks : ∀ y : Fin 4, (nbs y.val).Sublist [0, 1, 2] ∧ ([0, 1, 2, 3].flatMap (keys y.val)).Sublist sends := by decide +kernel
theorem sends_ne : ∀ k ∈ sends, k ≠ 193 := by decide +kernel

theorem toks_around (X : Dev nD → S2048x512.Idx → Elt F .f32) :
    (bigSep Finset.univ fun c : Dev nD => (minted c : sProp 𝕄)) ⊢ bigSep Finset.univ (payToks X) := by
  refine (bigSep_mono fun c _ => minted_used c).trans ?_
  rw [bigSep_sep', bigSep_sep', bigSep_sep', all_deal sigE, all_deal tgtE (fun c k => tk c (k + 96)), ← bigSep_sep', ← bigSep_sep', ← bigSep_sep']
  refine bigSep_mono fun c _ => ?_
  obtain ⟨h1, h2⟩ := start_toks ⟨yc c, yc_lt c⟩
  unfold payToks
  rw [all_append, List.map_append, all_append, all_map, all_map, List.map_cons, List.map_nil, all_one, φ_tok_own, ← brackets (all _ sends), ← all_sep]
  refine BI.sep_mono ((all_sublist _ h1).trans (all_mono fun j _ => ?_))
    (BI.sep_mono ((all_sublist _ h2).trans (all_mono fun k hk => ?_)) (BI.Entails.refl _))
  · rw [φ_btok, sigE_apply]; exact BI.Entails.refl _
  · rw [φ_tok X c (sends_ne k (h2.subset hk)), tgtE_apply]; exact BI.Entails.refl _

/-! ## Credits -/

/-- Whether a step of the device `d` pays into the cell `k` of `c`. -/
def hits (d c : Dev nD) (k : ℕ) : Step → Bool
  | .sig j => decide (k = 0) && decide (sigTo d j = c)
  | .send k' => decide (k' + 96 = k) && decide (tgt d k' = c)
  | _ => false
/-- The credit of one payment. -/
def unit (k : ℕ) : ℕ := if k = 0 then 1 else N

theorem cell_eq {a c : Dev nD} {j k : ℕ} (hj : j < 194) (hk : k < 194) (h : cell a j = cell c k) : a = c ∧ j = k :=
  ⟨congrArg (fun g : GSem nD τ sig => g.1.1) h, csem_inj hj hk (congrArg Prod.snd h)⟩

/-- What a step pays into a cell. -/
theorem due_cell (d c : Dev nD) {k : ℕ} (hk : k < 194) (i : Step) (hi : guard (yc d) i = true) :
    due d i (cell c k) () = if hits d c k i = true then unit k else 0 := by
  cases i with
  | sig j =>
    show tallyAt (cell (sigTo d j) 0) () 1 (cell c k) () = _
    rw [tallyAt_apply]
    by_cases h : hits d c k (.sig j) = true
    · rw [if_pos h]
      simp only [hits, Bool.and_eq_true, decide_eq_true_eq] at h
      obtain ⟨rfl, rfl⟩ := h
      rw [if_pos ⟨rfl, rfl⟩]; rfl
    · rw [if_neg h, if_neg]
      rintro ⟨h', -⟩
      obtain ⟨h1, h2⟩ := cell_eq hk (by decide) h'
      exact h (by simp only [hits, Bool.and_eq_true, decide_eq_true_eq]; exact ⟨h2, h1.symm⟩)
  | send k' =>
    have hk' : k' < 97 := by
      simp only [guard, Bool.and_eq_true, decide_eq_true_eq] at hi; omega
    show tallyAt (cell (tgt d k') (k' + 96)) () N (cell c k) () = _
    rw [tallyAt_apply]
    by_cases h : hits d c k (.send k') = true
    · rw [if_pos h]
      simp only [hits, Bool.and_eq_true, decide_eq_true_eq] at h
      obtain ⟨rfl, rfl⟩ := h
      rw [if_pos ⟨rfl, rfl⟩]; exact (if_neg (Nat.succ_ne_zero _)).symm
    · rw [if_neg h, if_neg]
      rintro ⟨h', -⟩
      obtain ⟨h1, h2⟩ := cell_eq hk (by omega) h'
      exact h (by simp only [hits, Bool.and_eq_true, decide_eq_true_eq]; exact ⟨h2.symm, h1.symm⟩)
  | barrier n => exact (if_neg Bool.false_ne_true).symm
  | wait n => exact (if_neg Bool.false_ne_true).symm
  | own => exact (if_neg Bool.false_ne_true).symm

/-- What steps owe a cell: one payment for each step that pays into it. -/
theorem owl_cell (d c : Dev nD) {k : ℕ} (hk : k < 194) (l : List Step) :
    owl d l (cell c k) () = l.countP (fun i => hits d c k i && guard (yc d) i) * unit k := by
  induction l with
  | nil => exact (Nat.zero_mul _).symm
  | cons i l ih =>
    rw [List.countP_cons]
    by_cases hi : guard (yc d) i = true
    · rw [owl_do hi, Pi.add_apply, Finsupp.add_apply, ih, due_cell d c hk i hi, hi, Bool.and_true, Nat.add_mul]
      congr 1
      split
      · exact (Nat.one_mul _).symm
      · exact (Nat.zero_mul _).symm
    · rw [owl_skip (Bool.eq_false_iff.2 hi), ih, Bool.eq_false_iff.2 hi, Bool.and_false, if_neg Bool.false_ne_true, Nat.add_zero]

/-- Whether a step pays into some device's cell `k`. -/
def pays (k : ℕ) : Step → Bool
  | .sig j => decide (k = 0)
  | .send k' => decide (k' + 96 = k)
  | _ => false
/-- The steps that pay into some device's cell `k`. -/
def payers (k : ℕ) : List Step := if k = 0 then [.sig 0, .sig 1, .sig 2] else [.send (k - 96)]

theorem hits_pays (d c : Dev nD) (k : ℕ) (i : Step) (h : hits d c k i = true) : pays k i = true := by
  cases i <;> simp only [hits, pays, Bool.and_eq_true] at h ⊢ <;> first | exact h.1 | exact h

/-- The keys a device has credits for at the start. -/
def credKeys (y : ℕ) : List ℕ := 0 :: [4, 5, 6, 7].flatMap (keys y)

theorem prog_payers : ∀ k ∈ 0 :: (List.range 96).map (97 + ·), prog.filter (pays k) = payers k := by decide +kernel
theorem credKeys_sub : ∀ y : Fin 4, (credKeys y.val).Sublist (0 :: (List.range 96).map (97 + ·)) := by decide +kernel
theorem range_sub : (0 :: (List.range 96).map (97 + ·)).Sublist (List.range 194) := by decide +kernel
/-- How many payments a cell gets. -/
def count (y k : ℕ) : ℕ := if k = 0 then (nbs y).length else 1
theorem payments : ∀ c : Dev nD, ∀ k ∈ credKeys (yc c),
    ((List.finRange nD).map fun d => (payers k).countP fun i => hits d c k i && guard (yc d) i).sum = count (yc c) k := by decide +kernel

theorem credKeys_lt (c : Dev nD) {k : ℕ} (hk : k ∈ credKeys (yc c)) : k < 193 := by
  have h := (credKeys_sub ⟨yc c, yc_lt c⟩).subset hk
  rcases List.mem_cons.1 h with rfl | h
  · decide
  · obtain ⟨j, hj, rfl⟩ := List.mem_map.1 h
    have := List.mem_range.1 hj; omega

/-- All devices together owe a cell what its one round expects. -/
theorem owed_all (c : Dev nD) {k : ℕ} (hk : k ∈ credKeys (yc c)) : ∑ d : Dev nD, owl d prog (cell c k) () = amt c k := by
  have hlt := credKeys_lt c hk
  have e (d : Dev nD) : owl d prog (cell c k) () = ((payers k).countP fun i => hits d c k i && guard (yc d) i) * unit k := by
    rw [owl_cell d c (by omega), ← prog_payers k ((credKeys_sub ⟨yc c, yc_lt c⟩).subset hk), List.countP_filter]
    congr 1
    refine List.countP_congr fun i _ => ?_
    simp only [Bool.and_eq_true]
    exact ⟨fun h => ⟨h, hits_pays d c k i h.1⟩, fun h => h.1⟩
  rw [Finset.sum_congr rfl fun d _ => e d, ← Finset.sum_mul, Fin.sum_univ_def, payments c k hk]
  unfold count unit amt
  by_cases h : k = 0
  · rw [if_pos h, if_pos h, if_pos h, Nat.mul_one]
  · rw [if_neg h, if_neg h, if_neg h, if_neg (by omega), Nat.one_mul]

theorem launch_cell (c : Dev nD) {k : ℕ} (hk : k ∈ credKeys (yc c)) :
    tallyOn (cell c k) (launchCredit (Pipeline.owing fun d => owl d prog) 0 (cell c k)) = (tallyAt (cell c k) () (amt c k) : CellTallies nD τ sig Unit) := by
  unfold tallyAt; refine congrArg _ (Finsupp.ext fun u => ?_); cases u
  rw [Pipeline.launchCredit_owing, Finsupp.single_eq_same, owed_all c hk]

theorem sems_inj : Function.Injective fun k : Fin 194 => csem k.val := fun k k' h => Fin.ext (csem_inj k.isLt k'.isLt h)

/-- The launch's credit of a device is what it starts with. -/
theorem creds (X : Dev nD → S2048x512.Idx → Elt F .f32) (c : Dev nD) :
    (Pipeline.launchCred (fun d => owl d prog) c : sProp 𝕄) ⊢ all (φ X c) ((credKeys (yc c)).map .crd) := by
  unfold Pipeline.launchCred
  refine (bigSep_subset (Finset.subset_univ (Finset.univ.map ⟨_, sems_inj⟩))).trans ?_
  rw [bigSep_map]
  refine BIBase.Entails.trans (Entails.of_eq (all_range (fun k => cred (tallyOn (cell c k) (launchCredit (Pipeline.owing fun d => owl d prog) 0 (cell c k)))) 194)) ?_
  rw [all_map]
  refine (all_sublist _ ((credKeys_sub ⟨yc c, yc_lt c⟩).trans range_sub)).trans (all_mono fun k hk => ?_)
  rw [φ_crd, launch_cell c hk]

end Cert.Ring

end
-- ==== Proof.Rows.lean ====
/-
# Cutting the buffers into the rows the plan speaks of, and putting them together again
-/
module

public import proofs.«01_k».proof.Proof.Cells

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Blocks of rows -/

/-- What follow from each other are the same. -/
theorem both {P Q : sProp 𝕄} (h : P ⊣⊢ Q) : P = Q := BI.Entails.antisymm h.1 h.2

/-- Rows of a result, cut in two. -/
theorem oPts_add (c : Dev nD) (a m n : ℕ) (q : PosShare TreeShare) (f : S8192x512.Idx → Elt F .f32) :
    oPts c a (m + n) q f = iprop(oPts c a m q f ∗ oPts c (a + m) n q f) := by
  unfold oPts
  have e : rows a (m + n) = rows a m ∪ rows (a + m) n := by
    ext i; rw [Finset.mem_union, mem_rows, mem_rows, mem_rows]; omega
  have d : Disjoint (rows a m) (rows (a + m) n) :=
    Finset.disjoint_left.2 fun i h h' => by rw [mem_rows] at h h'; omega
  rw [e]; exact both (pointsTo_union d)

/-- Rows of a staged argument, cut in two. -/
theorem sPts_add (X : Dev nD → S2048x512.Idx → Elt F .f32) (c : Dev nD) (a m n : ℕ) (q : PosShare TreeShare) :
    sPts X c a (m + n) q = iprop(sPts X c a m q ∗ sPts X c (a + m) n q) := by
  unfold sPts
  have e : srows a (m + n) = srows a m ∪ srows (a + m) n := by
    ext i; rw [Finset.mem_union, mem_srows, mem_srows, mem_srows]; omega
  have d : Disjoint (srows a m) (srows (a + m) n) :=
    Finset.disjoint_left.2 fun i h h' => by rw [mem_srows] at h h'; omega
  rw [e]; exact both (pointsTo_union d)

theorem oPts_none (c : Dev nD) (a : ℕ) (q : PosShare TreeShare) (f : S8192x512.Idx → Elt F .f32) : oPts c a 0 q f = iprop(emp) := by
  unfold oPts
  rw [show rows a 0 = ∅ from Finset.eq_empty_of_forall_notMem fun i h => by rw [mem_rows] at h; omega]
  exact pointsTo_empty
theorem sPts_none (X : Dev nD → S2048x512.Idx → Elt F .f32) (c : Dev nD) (a : ℕ) (q : PosShare TreeShare) : sPts X c a 0 q = iprop(emp) := by
  unfold sPts
  rw [show srows a 0 = ∅ from Finset.eq_empty_of_forall_notMem fun i h => by rw [mem_srows] at h; omega]
  exact pointsTo_empty

/-- What splits in two splits into blocks. -/
theorem blocks (P : ℕ → ℕ → sProp 𝕄) (h0 : ∀ a, P a 0 = iprop(emp)) (hadd : ∀ a m n, P a (m + n) = iprop(P a m ∗ P (a + m) n)) (a n : ℕ) :
    P a (128 * n) = all (fun j => P (a + 128 * j) 128) (List.range n) := by
  induction n with
  | zero => exact h0 a
  | succ n ih => rw [Nat.mul_succ, hadd, ih, List.range_succ, all_append, all_one]

theorem oPts_blocks (c : Dev nD) (a n : ℕ) (q : PosShare TreeShare) (f : S8192x512.Idx → Elt F .f32) :
    oPts c a (128 * n) q f = all (fun j => oPts c (a + 128 * j) 128 q f) (List.range n) :=
  blocks (fun a n => oPts c a n q f) (fun a => oPts_none c a q f) (fun a m n => oPts_add c a m n q f) a n
theorem sPts_blocks (X : Dev nD → S2048x512.Idx → Elt F .f32) (c : Dev nD) (a n : ℕ) (q : PosShare TreeShare) :
    sPts X c a (128 * n) q = all (fun j => sPts X c (a + 128 * j) 128 q) (List.range n) :=
  blocks (fun a n => sPts X c a n q) (fun a => sPts_none X c a q) (fun a m n => sPts_add X c a m n q) a n

/-! ## The result -/

/-- The receives of a device. -/
def recvs (y : ℕ) : List ℕ := [4, 5, 6, 7].flatMap (keys y)

/-- The receives' rows and the device's own chunk are all rows of the result. -/
theorem rows_perm : ∀ c : Dev nD, ((List.range 64).map (128 * ·)).Perm ((recvs (yc c)).map (rowOf c) ++ (List.range 16).map (2048 * yc c + 128 * ·)) := by
  decide +kernel
/-- A receive's rows lie in a chunk that is not the device's own. -/
theorem rows_chunk : ∀ c : Dev nD, ∀ k ∈ recvs (yc c), rowOf c k / 2048 ≠ yc c ∧ rowOf c k % 128 = 0 := by decide +kernel

/-- A result, cut into the receives' rows and the device's own chunk. -/
theorem out_cut (c : Dev nD) (q : PosShare TreeShare) (f : S8192x512.Idx → Elt F .f32) :
    (oLoc c ↦{q} f : sProp 𝕄) = iprop(all (fun k => oPts c (rowOf c k) 128 q f) (recvs (yc c)) ∗ oPts c (2048 * yc c) 2048 q f) := by
  have e : (oLoc c ↦{q} f : sProp 𝕄) = oPts c 0 (128 * 64) q f := by
    unfold oPts
    rw [show rows 0 (128 * 64) = Finset.univ from Finset.eq_univ_of_forall fun i => mem_rows.2 ⟨Nat.zero_le _, by have : (i 0).val < 8192 := (i 0).isLt; omega⟩]
  have e1 : all (fun j => oPts (F := F) c (0 + 128 * j) 128 q f) (List.range 64) = all (fun a => oPts c a 128 q f) ((List.range 64).map (128 * ·)) := by
    rw [all_map]; exact all_congr fun j _ => by rw [Nat.zero_add]
  rw [e, oPts_blocks, e1, all_perm _ (rows_perm c), all_append, all_map, all_map, ← oPts_blocks]

/-- The rows a device starts with. -/
theorem out_start (X : Dev nD → S2048x512.Idx → Elt F .f32) (c : Dev nD) (f : S8192x512.Idx → Elt F .f32) :
    (oLoc c ↦{fullShare} f : sProp 𝕄) ⊢ iprop(all (φ X c) ((recvs (yc c)).map .slot) ∗ φ X c .ownDst) := by
  rw [out_cut, all_map]
  refine BI.sep_mono (all_mono fun k _ => ?_) ?_
  · exact show (oPts c (rowOf c k) 128 fullShare f : sProp 𝕄) ⊢ iprop(∃ f, oPts c (rowOf c k) 128 fullShare f) by
      iintro H; iexists f; iexact H
  · exact show (oPts c (2048 * yc c) 2048 fullShare f : sProp 𝕄) ⊢ iprop(∃ f, oPts c (2048 * yc c) 2048 fullShare f) by
      iintro H; iexists f; iexact H

/-- In a receive's rows the final contents are what the exchange brings, in the own chunk the device's own block. -/
theorem fin_recv (X : Dev nD → S2048x512.Idx → Elt F .f32) (c : Dev nD) {k : ℕ} (hk : k ∈ recvs (yc c)) (q : PosShare TreeShare) :
    oPts c (rowOf c k) 128 q (gl X (zc c)) = oPts c (rowOf c k) 128 q (fin X c) := by
  unfold oPts
  refine pointsTo_congr fun i hi => ?_
  obtain ⟨h1, h2⟩ := rows_chunk c k hk
  rw [mem_rows] at hi
  unfold fin
  rw [if_neg]
  omega
theorem fin_own (X : Dev nD → S2048x512.Idx → Elt F .f32) (c : Dev nD) (q : PosShare TreeShare) :
    oPts c (2048 * yc c) 2048 q (own X c) = oPts c (2048 * yc c) 2048 q (fin X c) := by
  unfold oPts
  refine pointsTo_congr fun i hi => ?_
  rw [mem_rows] at hi
  unfold fin
  rw [if_pos]
  omega

/-- The rows a device ends with are the whole result at the final contents. -/
theorem out_end (X : Dev nD → S2048x512.Idx → Elt F .f32) (c : Dev nD) :
    iprop(all (φ X c) (([4, 5].flatMap (keys (yc c))).flatMap fun k => [.gotL k, .gotR k])
        ∗ all (φ X c) (([6, 7].flatMap (keys (yc c))).map .gotx) ∗ φ X c .ownOut) ⊢ (oLoc c ↦{fullShare} fin X c : sProp 𝕄) := by
  have hs : recvs (yc c) = [4, 5].flatMap (keys (yc c)) ++ [6, 7].flatMap (keys (yc c)) := by
    unfold recvs; exact List.flatMap_append (xs := [4, 5]) (ys := [6, 7])
  rw [out_cut, hs, all_append, brackets, all_flatMap, all_map]
  refine BI.sep_mono (all_mono fun k hk => ?_) (BI.sep_mono (all_mono fun k hk => ?_) ?_)
  · rw [all_cons, all_one, ← fin_recv X c (by rw [hs]; exact List.mem_append_left _ hk)]
    exact (pointsTo_share (PosShare.mem_left_op_right fullShare)).2
  · rw [← fin_recv X c (by rw [hs]; exact List.mem_append_right _ hk)]
    exact BI.Entails.refl _
  · rw [← fin_own X c]
    exact BI.Entails.refl _

/-! ## The staged argument -/

theorem xin_left : ∀ j ∈ List.range 8, sub (1 + j) = j ∧ arr (1 + j) = 0 := by decide +kernel
theorem xin_right : ∀ j ∈ List.range 8, sub (25 + j) = j ∧ arr (25 + j) ≠ 0 := by decide +kernel

/-- The shares of the own block the sends and the local copy read. -/
def reads (X : Dev nD → S2048x512.Idx → Elt F .f32) (c : Dev nD) : sProp 𝕄 :=
  iprop(all (φ X c) (((List.range 8).map (1 + ·) ++ (List.range 8).map (25 + ·)).map .xin) ∗ φ X c .xOwn)
/-- What nobody reads. -/
def unread (X : Dev nD → S2048x512.Idx → Elt F .f32) (c : Dev nD) : sProp 𝕄 :=
  sLoc c ↦[Finset.univ \ srows (1024 * xc c) 1024]{fullShare.right} X c

/-- The staged argument, cut into the shares the sends and the local copy read and the rest. -/
theorem in_cut (X : Dev nD → S2048x512.Idx → Elt F .f32) (c : Dev nD) :
    (sLoc c ↦{fullShare} X c : sProp 𝕄) = iprop(reads X c ∗ unread X c) := by
  have e1 : (sLoc c ↦{fullShare} X c : sProp 𝕄) = iprop((sLoc c ↦{fullShare.left} X c) ∗ (sLoc c ↦{fullShare.right} X c)) :=
    both (pointsTo_share (PosShare.mem_left_op_right fullShare))
  have e2 : (sLoc c ↦{fullShare.right} X c : sProp 𝕄) = iprop(sPts X c (1024 * xc c) (128 * 8) fullShare.right ∗ unread X c) :=
    both (pointsTo_split_subset (Finset.subset_univ _))
  have e3 (a : ℕ) : sPts X c a 128 fullShare.right = iprop(sPts X c a 128 fullShare.right.left ∗ sPts X c a 128 fullShare.right.right) :=
    both (pointsTo_share (PosShare.mem_left_op_right fullShare.right))
  have e4 : sPts X c (1024 * xc c) (128 * 8) fullShare.right = all (φ X c) (((List.range 8).map (1 + ·) ++ (List.range 8).map (25 + ·)).map .xin) := by
    rw [sPts_blocks, all_congr fun j _ => e3 _, all_sep, List.map_append, all_append, all_map, all_map, all_map, all_map]
    refine congrArg₂ BI.sep (all_congr fun j hj => ?_) (all_congr fun j hj => ?_)
    · obtain ⟨h1, h2⟩ := xin_left j hj
      show _ = sPts X c (1024 * xc c + 128 * sub (1 + j)) 128 (xshare (1 + j))
      rw [h1, xshare, if_pos h2]
    · obtain ⟨h1, h2⟩ := xin_right j hj
      show _ = sPts X c (1024 * xc c + 128 * sub (25 + j)) 128 (xshare (25 + j))
      rw [h1, xshare, if_neg h2]
  rw [e1, e2, e4, reads, either_order _ (φ X c .xOwn), brackets]
  rfl

end Cert.Ring

end
-- ==== Proof.Setup.lean ====
/-
# What the devices start from and what they end with

From the launch's semaphores, tokens and credits to the stock of atoms every device starts the plan with, and from the
stock it ends with to semaphores at zero and the whole result.
-/
module

public import proofs.«01_k».proof.Proof.Deal
public import proofs.«01_k».proof.Proof.Rows

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S2048x512.Idx → Elt F .f32)

/-! ## Semaphores -/

/-- The kernel's own semaphores. -/
def osem (k : Fin 193) : SemLoc sig := csem (k.val + 1)

theorem osem_scoped : ∀ k, (osem k).isScoped .tc = true := by decide +kernel
theorem osem_stage : ∀ k w s, osem k ≠ .dma ((cfg0.spec w).sem s) := by decide +kernel
theorem ownSemFacts : Pipeline.OwnSemFacts cfg0.spec osem :=
  ⟨osem_scoped, fun k k' h => Fin.ext (by have := csem_inj (by omega) (by omega) h; omega), osem_stage⟩

/-- A device's semaphores at zero. -/
def zeros (c : Dev nD) : sProp 𝕄 := all (fun k => semVal (cell c k) 0) (List.range 194)

theorem zeros_bar (c : Dev nD) : (unscopedSems0 c : sProp 𝕄) = semVal (cell c 0) 0 := by
  unfold unscopedSems0; rw [bigSep_eq_bigSepL_of_eq [SemLoc.reg barS] (by decide +kernel) (by decide +kernel), cell_zero]; rfl

/-- The launch's semaphores of a device: the kernel's own and the barrier. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  have e : Pipeline.ownSems0 (Ix := Unit) (Name := ℕ) (U := UU) (Lvl := ℕ) (Val := Elt F) (τ := τ) osem c
      = all (fun k => (semVal (cell c (k + 1)) 0 : sProp 𝕄)) (List.range 193) := all_range (fun k => (semVal (cell c (k + 1)) 0 : sProp 𝕄)) 193
  rw [zeros_bar, e]
  unfold zeros
  rw [show List.range 194 = 0 :: (List.range 193).map Nat.succ from List.range_succ_eq_map, all_cons, all_map]

/-! ## Minting -/

/-- Every cell of every device. -/
def kcell (ck : Dev nD × Fin 194) : GSem nD τ sig := cell ck.1 ck.2.val
/-- The tokens minted, by cell and duty. -/
def tokOf (x : Dev nD × Fin 194 × Fin 3) : GSem nD τ sig × ℕ × Fin 3 := (cell x.1 x.2.1.val, 0, x.2.2)

theorem kcell_inj : Function.Injective kcell := by
  rintro ⟨c, k⟩ ⟨c', k'⟩ h
  obtain ⟨rfl, h2⟩ := cell_eq k.isLt k'.isLt h
  rw [Fin.ext h2]
theorem tokOf_inj : Function.Injective tokOf := by
  rintro ⟨c, k, j⟩ ⟨c', k', j'⟩ h
  obtain ⟨rfl, h2⟩ := cell_eq k.isLt k'.isLt (congrArg (fun x : GSem nD τ sig × ℕ × Fin 3 => x.1) h)
  have h3 : j = j' := congrArg (fun x : GSem nD τ sig × ℕ × Fin 3 => x.2.2) h
  rw [Fin.ext h2, h3]

/-- All cells. -/
def ringCells : Finset (GSem nD τ sig) := Finset.univ.map ⟨kcell, kcell_inj⟩
/-- All tokens. -/
def ringToks : Finset (GSem nD τ sig × ℕ × Fin 3) := Finset.univ.map ⟨tokOf, tokOf_inj⟩

/-- The launch's ghost element. -/
def u₀ : UU := (initOf (Pipeline.cells cfgs cellOf_inj) (Pipeline.launchToks cfgs cellOf_inj), initOf ringCells ringToks)

/-- What the launch deals a device: its cells' states, its positions, that its cells have reached their round, its tokens. -/
def G (c : Dev nD) : sProp 𝕄 :=
  iprop((bigSep Finset.univ fun k : Fin 194 => roundState ER (Rd X) (kcell (c, k)) 0)
    ∗ (bigSep Finset.univ fun k : Fin 194 => reached ER (kcell (c, k)) 0)
    ∗ (bigSep Finset.univ fun k : Fin 194 => atPos ER (kcell (c, k)) 0 ∅ 0) ∗ minted c)

/-- The positions a device starts with. -/
def places (c : Dev nD) : sProp 𝕄 := all (φ X c) ((List.range 194).map .pos)

theorem places_eq (c : Dev nD) : (bigSep Finset.univ fun k : Fin 194 => (atPos ER (kcell (c, k)) 0 ∅ 0 : sProp 𝕄)) = places X c := by
  unfold places
  rw [all_map]
  exact all_range (fun k => (atPos ER (cell c k) 0 ∅ 0 : sProp 𝕄)) 194

/-- What the global step makes of it: the records of all cells, its positions, the tokens it pays with. -/
def G' (c : Dev nD) : sProp 𝕄 := iprop(∃ K, records X K ∗ places X c ∗ payToks X c)

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Fin 194 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]
    exact bigSep_congr fun c _ => by unfold minted; rw [bigSep_univ_prod]; rfl
  iintro HX
  imod (Rounds.fund ER (Rd X) ringCells ringToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem zeros_set (c : Dev nD) : (zeros c : sProp 𝕄) = bigSep Finset.univ fun k : Fin 194 => semVal (kcell (c, k)) 0 :=
  (all_range (fun k => (semVal (cell c k) 0 : sProp 𝕄)) 194).symm

/-- The records of a device's cells, from their semaphores and states. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Fin 194 => iprop(∃ κ : ℕ, cellInv ER (Rd X) κ (kcell (c, k))))
          ∗ (bigSep Finset.univ fun k : Fin 194 => reached ER (kcell (c, k)) 0) ∗ places X c ∗ minted c) := by
  have e := ((zeros_eq (F := F) c).symm.trans (zeros_set c))
  have hi : iprop((bigSep Finset.univ fun k : Fin 194 => semVal (kcell (c, k)) 0) ∗ bigSep Finset.univ fun k : Fin 194 => roundState ER (Rd X) (kcell (c, k)) 0)
      ⊢ (|={Set.univ}=> bigSep Finset.univ fun k => iprop(∃ κ : ℕ, cellInv ER (Rd X) κ (kcell (c, k))) : sProp 𝕄) := by
    rw [← bigSep_sep']
    exact (bigSep_mono fun k _ => (Rounds.body_intro ER (Rd X) (kcell (c, k))).trans inv_alloc).trans (bigSep_fupd _ _)
  unfold G
  iintro ⟨Hos, Hus, Hst, Hr, Hat, Htok⟩
  ihave Hv := (Entails.of_eq e) $$ [Hos Hus]
  · isplitl [Hus] <;> iassumption
  imod hi $$ [Hv Hst] with Hinv
  · isplitl [Hv] <;> iassumption
  imodintro
  isplitl [Hinv]; · iexact Hinv
  isplitl [Hr]; · iexact Hr
  isplitl [Hat]; · iapply (Entails.of_eq (places_eq X c)); iexact Hat
  iexact Htok

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 194 => iprop(∃ κ : ℕ, cellInv ER (Rd X) κ (kcell (c, k))))
          ∗ (bigSep Finset.univ fun k : Fin 194 => reached ER (kcell (c, k)) 0) ∗ places X c ∗ minted c) : sProp 𝕄)
      ⊢ bigSep Finset.univ (G' X) := by
  have hg (K : Dev nD × Fin 194 → ℕ) (c : Dev nD) : iprop(records X K ∗ places X c ∗ payToks X c) ⊢ G' X c := by
    unfold G'; iintro H; iexists K; iexact H
  rw [bigSep_sep', bigSep_sep', bigSep_sep', ← bigSep_univ_prod (fun ck : Dev nD × Fin 194 => iprop(∃ κ : ℕ, cellInv ER (Rd X) κ (kcell ck))),
    ← bigSep_univ_prod (fun ck : Dev nD × Fin 194 => (reached ER (kcell ck) 0 : sProp 𝕄))]
  iintro ⟨HI, #HR, Hat, Htok⟩
  ihave HK := (BI.bigSep_exists_pi Finset.univ (fun (ck : Dev nD × Fin 194) (κ : ℕ) => (cellInv ER (Rd X) κ (kcell ck) : sProp 𝕄))) $$ HI
  icases HK with ⟨%K, #HI⟩
  ihave Htk := (toks_around X) $$ Htok
  iapply (with_known (R := records X K) fun c _ => hg K c)
  isplitr
  · unfold records; isplitl; · iexact HI
    iexact HR
  · iapply (Entails.of_eq (bigSep_sep' Finset.univ (places X) (payToks X)).symm)
    isplitl [Hat]; · iexact Hat
    iexact Htk

/-- The global step: the records of all devices' cells, and every device's positions and tokens. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The start -/

/-- What a device starts with besides its staged argument. -/
def held (c : Dev nD) : sProp 𝕄 :=
  iprop(places X c ∗ payToks X c ∗ all (φ X c) ((credKeys (yc c)).map .crd) ∗ all (φ X c) ((recvs (yc c)).map .slot) ∗ φ X c .ownDst)

/-- With its staged argument it holds the plan's starting stock. -/
theorem held_start (c : Dev nD) : iprop(held X c ∗ reads X c) ⊢ all (φ X c) (start (yc c)) := by
  unfold held places payToks reads start
  simp only [all_append, all_cons, all_nil]
  iintro ⟨⟨Hp, ⟨Hb, Ht⟩, Hc, Hs, Hd⟩, Hr, Hx⟩
  isplitr [Hx Hd]
  · isplitr [Hr]
    · isplitr [Hs]
      · isplitr [Ht]
        · isplitr [Hc]
          · isplitl [Hb] <;> iassumption
          · iexact Hc
        · iexact Ht
      · iexact Hs
    · iexact Hr
  · isplitl [Hx]; · iexact Hx
    isplitl [Hd]; · iexact Hd
    iempintro

/-! ## The end -/

/-- A stock the empty plan accepts is the final stock. -/
theorem end_finish (c : Dev nD) {A : List Atom} (h : chk (yc c) [] A = true) : all (φ X c) A ⊢ all (φ X c) (finish (yc c)) := by
  unfold chk at h
  split at h
  · rename_i B hB
    rw [all_take (φ X c) hB]
    exact BI.Entails.trans BI.sep_and and_elimL
  · exact absurd h Bool.false_ne_true

variable (K : Dev nD × Fin 194 → ℕ)

/-- A cell whose round is over, or that is not used, closes: its semaphore is at zero. -/
theorem close_cell (c : Dev nD) {k : ℕ} (hk : k < 194) :
    iprop(known X K ∗ φ X c (if act (yc c) k then .done k else .pos k)) ⊢ (|={Set.univ}=> semVal (cell c k) 0 : sProp 𝕄) := by
  have hc := inv_at X K c hk
  have h (r : ℕ) (hr : ∀ s, r ≤ s → (Rd X).duties (cell c k) s = ∅) : iprop(known X K ∗ atPos ER (cell c k) r ∅ 0) ⊢ (|={Set.univ}=> semVal (cell c k) 0 : sProp 𝕄) := by
    iintro ⟨HK, Hat⟩
    ihave HI := hc $$ HK
    iapply (Rounds.cell_close ER (Rd X) (Set.mem_univ (nm K c k)) (fun h => h) (R := r) hr)
    isplitl [HI] <;> iassumption
  by_cases ha : act (yc c) k = true
  · rw [if_pos ha, φ_done]
    exact h 1 fun s hs => duties_later X _ s hs
  · rw [if_neg ha, φ_pos]
    exact h 0 fun s _ => duties_idle X c hk (Bool.eq_false_iff.2 ha) s

theorem close_cells (c : Dev nD) (l : List ℕ) (hl : ∀ k ∈ l, k < 194) :
    iprop(known X K ∗ all (φ X c) (l.map fun k => if act (yc c) k then .done k else .pos k))
      ⊢ (|={Set.univ}=> all (fun k => semVal (cell c k) 0) l : sProp 𝕄) := by
  induction l with
  | nil => rw [all_nil]; iintro -; imodintro; iempintro
  | cons k l ih =>
    have h1 := close_cell X K c (hl k List.mem_cons_self)
    have h2 := ih fun j hj => hl j (List.mem_cons_of_mem _ hj)
    rw [List.map_cons, all_cons, all_cons]
    iintro ⟨#HK, Hk, Hl⟩
    imod h1 $$ [Hk] with Hk
    · isplitr [Hk] <;> iassumption
    imod h2 $$ [Hl] with Hl
    · isplitr [Hl] <;> iassumption
    imodintro
    isplitl [Hk] <;> iassumption

/-- The final stock is the semaphores at zero, the whole result, and the shares of the staged argument. -/
theorem finish_end (c : Dev nD) :
    iprop(known X K ∗ all (φ X c) (finish (yc c))) ⊢ |={Set.univ}=> iprop(zeros c ∗ (oLoc c ↦{fullShare} fin X c) ∗ reads X c) := by
  have h1 := close_cells X K c (List.range 194) fun k hk => List.mem_range.1 hk
  have h2 := out_end X c
  unfold finish
  rw [all_append, all_append, all_append, all_append, all_cons, all_one]
  iintro ⟨HK, ⟨⟨⟨Hz, Hg⟩, Hx⟩, Hr⟩, Ho, Hd⟩
  imod h1 $$ [HK Hz] with Hz
  · isplitl [HK] <;> iassumption
  imodintro
  isplitl [Hz]; · unfold zeros; iexact Hz
  isplitl [Hg Hx Hd]
  · iapply h2
    isplitl [Hg]; · iexact Hg
    isplitl [Hx] <;> iassumption
  · unfold reads
    isplitl [Hr] <;> iassumption

end Cert.Ring

end
-- ==== Proof.Engine.lean ====
/-
# Following the plan along a program

`Tri X K c l l' p V`: a device that follows the plan, with the steps `l` to come, and runs the program `p`, reaches the
end of `p` with the steps `l'` to come and a result `V` holds of. One rule per way a program is put together.
-/
module

public import proofs.«01_k».proof.Proof.Moves

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x512.Idx → Elt F .f32) (K : Dev nD × Fin 194 → ℕ) (c : Dev nD)

/-- From any stock the steps `l` run on, the program reaches a stock the steps `l'` run on. -/
def Tri (l l' : List Step) {α : Type} (p : Prog (TpuEff nD τ sig (Elt F) Λ₀ .tc) α) (V : α → Prop) : Prop :=
  ∀ Q : α → sProp 𝕄,
    (∀ v A W, V v → chk (yc c) l' A = true → iprop(known X K ∗ all (φ X c) A ∗ owes (c : Thread nD τ) (owl c l') W) ⊢ Q v) →
    ∀ A W, chk (yc c) l A = true →
      iprop(known X K ∗ all (φ X c) A ∗ owes (c : Thread nD τ) (owl c l) W)
        ⊢ wp frame (wpE (defs₀ (F := F)) 𝒱₀ c none) Set.univ p Q

/-- A program that is one operation carrying out the step `i`. -/
def Runs (i : Step) (p : Prog (TpuEff nD τ sig (Elt F) Λ₀ .tc) PUnit) : Prop :=
  ∃ e : TpuEff nD τ sig (Elt F) Λ₀ .tc PUnit, p = .op e .ret ∧ Does X K c i e

variable {X K c} {l l' l₁ : List Step} {α β : Type} {V : α → Prop} {i j : Step}

/-- A result. -/
theorem tri_ret {v : α} (h : V v) : Tri X K c l l (pure v) V := fun Q hQ A W hA =>
  (hQ v A W h hA).trans fupd_intro

/-- A program after another. -/
theorem tri_bind {p : Prog (TpuEff nD τ sig (Elt F) Λ₀ .tc) β} {k : β → Prog (TpuEff nD τ sig (Elt F) Λ₀ .tc) α} {V' : β → Prop}
    (hp : Tri X K c l l₁ p V') (hk : ∀ v, V' v → Tri X K c l₁ l' (k v) V) : Tri X K c l l' (p >>= k) V := fun Q hQ A W hA => by
  rw [wp_bind]
  exact hp _ (fun v A W hv hA => hk v hv Q hQ A W hA) A W hA

/-- A device learns its own name. -/
theorem tri_dev {k : Dev nD → Prog (TpuEff nD τ sig (Elt F) Λ₀ .tc) α} (h : Tri X K c l l' (k c) V) :
    Tri X K c l l' (Prog.lift .deviceId >>= k) V := fun Q hQ A W hA => by
  have e : wp frame (wpE (defs₀ (F := F)) 𝒱₀ (c : Thread nD τ) none) Set.univ (Prog.lift .deviceId >>= k) Q
      = wp frame (wpE (defs₀ (F := F)) 𝒱₀ (c : Thread nD τ) none) Set.univ (k c) Q := by
    rw [Prog.bind_lift, wp_deviceId]
  rw [e]
  exact h Q hQ A W hA

/-- A step that does not apply. -/
theorem tri_skip {p : Prog (TpuEff nD τ sig (Elt F) Λ₀ .tc) α} (hg : guard (yc c) i = false) (h : Tri X K c l l' p V) :
    Tri X K c (i :: l) l' p V := fun Q hQ A W hA => by
  rw [owl_skip hg]
  refine h Q hQ A W ?_
  rw [chk, hg] at hA
  exact hA

/-- A step that applies. -/
theorem tri_step {p : Prog (TpuEff nD τ sig (Elt F) Λ₀ .tc) PUnit} {rest : Prog (TpuEff nD τ sig (Elt F) Λ₀ .tc) α}
    (hg : guard (yc c) i = true) (hp : Runs X K c i p) (h : Tri X K c l l' rest V) :
    Tri X K c (i :: l) l' (p >>= fun _ => rest) V := fun Q hQ A W hA => by
  obtain ⟨e, rfl, hd⟩ := hp
  rw [chk, hg, if_pos rfl, Bool.and_eq_true] at hA
  obtain ⟨hw, ht⟩ := hA
  cases hT : take (need (yc c) i) A with
  | none => rw [hT] at ht; exact absurd ht Bool.false_ne_true
  | some B =>
    rw [hT] at ht
    rw [owl_do hg, all_take (φ X c) hT, Prog.bind_op]
    refine BIBase.Entails.trans ?_ (hd l B W _ Q hw fun W' => ?_)
    · iintro ⟨HK, ⟨Hn, HB⟩, HO⟩
      isplitl [HK]; · iexact HK
      isplitl [Hn]; · iexact Hn
      isplitl [HB]; · iexact HB
      iexact HO
    · rw [Prog.bind_ret]
      exact h Q hQ _ W' ht

/-- A conditional around one step. -/
theorem tri_if {b : BitVec 1} {p : b = 1#1 → Prog (TpuEff nD τ sig (Elt F) Λ₀ .tc) PUnit} {rest : Prog (TpuEff nD τ sig (Elt F) Λ₀ .tc) α}
    (hb : Iff (b = 1#1) (guard (yc c) i = true)) (hp : ∀ h, guard (yc c) i = true → Runs X K c i (p h)) (h : Tri X K c l l' rest V) :
    Tri X K c (i :: l) l' (if h : b = 1#1 then p h >>= fun _ => rest else rest) V := by
  by_cases e : b = 1#1
  · rw [dif_pos e]; exact tri_step (hb.1 e) (hp e (hb.1 e)) h
  · rw [dif_neg e]; exact tri_skip (Bool.eq_false_iff.2 fun g => e (hb.2 g)) h

/-- A conditional around two steps. -/
theorem tri_if₂ {b : BitVec 1} {p q : b = 1#1 → Prog (TpuEff nD τ sig (Elt F) Λ₀ .tc) PUnit} {rest : Prog (TpuEff nD τ sig (Elt F) Λ₀ .tc) α}
    (hb : Iff (b = 1#1) (guard (yc c) i = true) ∧ Iff (b = 1#1) (guard (yc c) j = true))
    (hp : ∀ h, guard (yc c) i = true → Runs X K c i (p h)) (hq : ∀ h, guard (yc c) j = true → Runs X K c j (q h)) (h : Tri X K c l l' rest V) :
    Tri X K c (i :: j :: l) l' (if h : b = 1#1 then p h >>= fun _ => q h >>= fun _ => rest else rest) V := by
  by_cases e : b = 1#1
  · rw [dif_pos e]
    exact tri_step (hb.1.1 e) (hp e (hb.1.1 e)) (tri_step (hb.2.1 e) (hq e (hb.2.1 e)) h)
  · rw [dif_neg e]
    exact tri_skip (Bool.eq_false_iff.2 fun g => e (hb.1.2 g)) (tri_skip (Bool.eq_false_iff.2 fun g => e (hb.2.2 g)) h)

/-! ## The conditionals of the kernel

A step's conditional applies exactly when the plan's step does, and its operation is the step's: both are checked at every
device. -/

/-- The signal to the peer. -/
theorem tri_sig₀ {d : Dev nD} {rest : Prog (TpuEff nD τ sig (Elt F) Λ₀ .tc) α} (h : Tri X K c l l' rest V)
    (hd : d = sigTo c 0 := by revert c; decide +kernel) :
    Tri X K c (.sig 0 :: l) l' (semSignalWord d barS 1#32 >>= fun _ => rest) V :=
  tri_step rfl ⟨_, rfl, does_sig X K c 0 rfl d hd⟩ h

/-- A signal to a neighbour along the gather's axis. -/
theorem tri_sig {b : BitVec 1} {j : Fin 3} {d : b = 1#1 → Dev nD} {rest : Prog (TpuEff nD τ sig (Elt F) Λ₀ .tc) α} (h : Tri X K c l l' rest V)
    (hb : Iff (b = 1#1) (guard (yc c) (.sig j) = true) := by revert c; decide +kernel)
    (hd : ∀ h, d h = sigTo c j := by revert c; decide +kernel) :
    Tri X K c (.sig j :: l) l' (if h : b = 1#1 then semSignalWord (d h) barS 1#32 >>= fun _ => rest else rest) V :=
  tri_if hb (fun h g => ⟨_, rfl, does_sig X K c j g (d h) (hd h)⟩) h

/-- The wait on the barrier. -/
theorem tri_bar {b : BitVec 1} {n : ℕ} {w : BitVec 32} {rest : Prog (TpuEff nD τ sig (Elt F) Λ₀ .tc) α} (h : Tri X K c l l' rest V)
    (hb : Iff (b = 1#1) (guard (yc c) (.barrier n) = true) := by revert c; decide +kernel)
    (hw : w.toInt = n := by rfl) :
    Tri X K c (.barrier n :: l) l' (if h : b = 1#1 then semWaitWord barS w >>= fun _ => rest else rest) V :=
  tri_if hb (fun h g => ⟨.semWait barS n, by rw [← hw]; rfl, does_barrier X K c n g⟩) h

/-- The local copy. -/
theorem tri_own {s : DmaSem sig} {off : Fin 2 → ℕ} {ho hsrc hdst hsem} {rest : Prog (TpuEff nD τ sig (Elt F) Λ₀ .tc) α} (h : Tri X K c l l' rest V)
    (hs : s = dsem 193 := by rfl) (h0 : off 1 = 0 ∧ off 0 = 2048 * yc c := by revert c; decide +kernel) :
    Tri X K c (.own :: l) l' (Prog.lift (.enqueueDma (Memref.whole cc0_stg0_0) (.here (oOwn off ho)) (.dma s) hsrc hdst hsem) >>= fun _ => rest) V :=
  tri_step rfl ⟨_, rfl, does_own X K c hs h0.1 h0.2⟩ h

/-- The wait for the local copy. -/
theorem tri_wait_own {s : DmaSem sig} {off : Fin 2 → ℕ} {ho hsrc hdst} {rest : Prog (TpuEff nD τ sig (Elt F) Λ₀ .tc) α} (h : Tri X K c l l' rest V)
    (hs : s = dsem 193 := by rfl) :
    Tri X K c (.wait 193 :: l) l' (Prog.lift (.waitDma2 s (Memref.whole cc0_stg0_0) (oOwn off ho) hsrc hdst) >>= fun _ => rest) V :=
  tri_step (guard_own _) ⟨_, rfl, does_wait X K c 193 (guard_own _) hs (src := Memref.whole cc0_stg0_0) (dst := oOwn off ho) ((credit_oOwn off ho).trans (amt_own c).symm)⟩ h

/-- A wait for a copy of 128 rows consumes the copy's credit. -/
theorem amt_copy (c : Dev nD) {k : ℕ} (h : k ≠ 0 ∧ k ≠ 193) : N = amt c k := by rw [amt, if_neg h.1, if_neg h.2]

/-- A wait. -/
theorem tri_wait {b : BitVec 1} {k : ℕ} {s : DmaSem sig} {sp sp' : Space} {src : b = 1#1 → Memref sig .tc sp' S128x512 .f32}
    {dst : b = 1#1 → Memref sig .tc sp S128x512 .f32} {hsrc : ∀ h, (src h).view.WordExact} {hdst : ∀ h, (dst h).view.WordExact}
    {rest : Prog (TpuEff nD τ sig (Elt F) Λ₀ .tc) α} (h : Tri X K c l l' rest V)
    (hb : Iff (b = 1#1) (guard (yc c) (.wait k) = true) := by revert c; decide +kernel)
    (hk : k ≠ 0 ∧ k ≠ 193 := by decide) (hs : s = dsem k := by rfl) (hc : ∀ h, (dst h).view.dmaCredit = N := by exact fun _ => rfl) :
    Tri X K c (.wait k :: l) l' (if h : b = 1#1 then Prog.lift (.waitDma2 s (src h) (dst h) (hsrc h) (hdst h)) >>= fun _ => rest else rest) V :=
  tri_if hb (fun h g => ⟨_, rfl, does_wait X K c k g hs ((hc h).trans (amt_copy c hk))⟩) h

/-- Two waits under one conditional. -/
theorem tri_wait₂ {b : BitVec 1} {k k' : ℕ} {s s' : DmaSem sig} {sp sp' tp tp' : Space}
    {src : b = 1#1 → Memref sig .tc sp' S128x512 .f32} {dst : b = 1#1 → Memref sig .tc sp S128x512 .f32}
    {src' : b = 1#1 → Memref sig .tc tp' S128x512 .f32} {dst' : b = 1#1 → Memref sig .tc tp S128x512 .f32}
    {hsrc : ∀ h, (src h).view.WordExact} {hdst : ∀ h, (dst h).view.WordExact}
    {hsrc' : ∀ h, (src' h).view.WordExact} {hdst' : ∀ h, (dst' h).view.WordExact}
    {rest : Prog (TpuEff nD τ sig (Elt F) Λ₀ .tc) α} (h : Tri X K c l l' rest V)
    (hb : Iff (b = 1#1) (guard (yc c) (.wait k) = true) ∧ Iff (b = 1#1) (guard (yc c) (.wait k') = true) := by revert c; decide +kernel)
    (hk : (k ≠ 0 ∧ k ≠ 193) ∧ k' ≠ 0 ∧ k' ≠ 193 := by decide) (hs : s = dsem k := by rfl) (hs' : s' = dsem k' := by rfl)
    (hc : ∀ h, (dst h).view.dmaCredit = N := by exact fun _ => rfl) (hc' : ∀ h, (dst' h).view.dmaCredit = N := by exact fun _ => rfl) :
    Tri X K c (.wait k :: .wait k' :: l) l' (if h : b = 1#1 then Prog.lift (.waitDma2 s (src h) (dst h) (hsrc h) (hdst h)) >>= fun _ =>
      Prog.lift (.waitDma2 s' (src' h) (dst' h) (hsrc' h) (hdst' h)) >>= fun _ => rest else rest) V :=
  tri_if₂ hb (fun h g => ⟨_, rfl, does_wait X K c k g hs ((hc h).trans (amt_copy c hk.1))⟩)
    (fun h g => ⟨_, rfl, does_wait X K c k' g hs' ((hc' h).trans (amt_copy c hk.2))⟩) h

/-- The rows and the device of a send are the plan's. -/
def Aims (c : Dev nD) (k : ℕ) (off : Fin 2 → ℕ) : Prop := off 1 = 0 ∧ (guard (yc c) (.send k) = true → off 0 = rowOf (tgt c k) (k + 96))
instance (c : Dev nD) (k : ℕ) (off : Fin 2 → ℕ) : Decidable (Aims c k off) := by unfold Aims; infer_instance

/-- A send of the device's own rows. -/
theorem tri_send_i {b : BitVec 1} {k : ℕ} {d : b = 1#1 → Dev nD} {s₁ s₂ : DmaSem sig} {off off' : Fin 2 → ℕ}
    {ho : b = 1#1 → ∀ a, off a + S128x512.size a ≤ S8192x512.size a} {ho' : b = 1#1 → ∀ a, off' a + S128x512.size a ≤ S2048x512.size a}
    {hsc : ∀ h, (oSl off (ho h)).view.ref.isScScratch = false}
    {hsrc : ∀ h, (iSl off' (ho' h)).view.WordExact} {hdst : ∀ h, (oSl off (ho h)).view.WordExact}
    {hsem : ∀ h, DmaTarget.Typed (nD := nD) .vmem (.dma s₂) (.remote (Dev.tc (d h) : Thread nD τ) (oSl off (ho h)) (.dma s₁) (hsc h))}
    {rest : Prog (TpuEff nD τ sig (Elt F) Λ₀ .tc) α} (h : Tri X K c l l' rest V)
    (hb : Iff (b = 1#1) (guard (yc c) (.send k) = true) := by revert c; decide +kernel)
    (hd : ∀ h, d h = tgt c k := by revert c; decide +kernel) (hk : arr k < 2 ∧ stp k = 0 := by decide)
    (hs₁ : s₁ = dsem k := by rfl) (hs₂ : s₂ = dsem (k + 96) := by rfl)
    (h0 : Aims c k off := by revert c; decide +kernel) (h0' : off' 1 = 0 ∧ off' 0 = 1024 * xc c + 128 * sub k := by revert c; decide +kernel) :
    Tri X K c (.send k :: l) l' (if h : b = 1#1 then Prog.lift (.enqueueDma (iSl off' (ho' h))
      (.remote (Dev.tc (d h) : Thread nD τ) (oSl off (ho h)) (.dma s₁) (hsc h)) (.dma s₂) (hsrc h) (hdst h) (hsem h)) >>= fun _ => rest else rest) V :=
  tri_if hb (fun h g => ⟨_, rfl, does_send_i X K c k g hk (hd h) hs₁ hs₂ h0.1 (h0.2 g) h0'.1 h0'.2⟩) h

/-- A send of rows received before. -/
theorem tri_send_o {b : BitVec 1} {k : ℕ} {d : b = 1#1 → Dev nD} {s₁ s₂ : DmaSem sig} {off off' : Fin 2 → ℕ}
    {ho : b = 1#1 → ∀ a, off a + S128x512.size a ≤ S8192x512.size a} {ho' : b = 1#1 → ∀ a, off' a + S128x512.size a ≤ S8192x512.size a}
    {hsc : ∀ h, (oSl off (ho h)).view.ref.isScScratch = false}
    {hsrc : ∀ h, (oSl off' (ho' h)).view.WordExact} {hdst : ∀ h, (oSl off (ho h)).view.WordExact}
    {hsem : ∀ h, DmaTarget.Typed (nD := nD) .hbm (.dma s₂) (.remote (Dev.tc (d h) : Thread nD τ) (oSl off (ho h)) (.dma s₁) (hsc h))}
    {rest : Prog (TpuEff nD τ sig (Elt F) Λ₀ .tc) α} (h : Tri X K c l l' rest V)
    (hb : Iff (b = 1#1) (guard (yc c) (.send k) = true) := by revert c; decide +kernel)
    (hd : ∀ h, d h = tgt c k := by revert c; decide +kernel) (hk : ¬ (arr k < 2 ∧ stp k = 0) := by decide)
    (hs₁ : s₁ = dsem k := by rfl) (hs₂ : s₂ = dsem (k + 96) := by rfl)
    (h0 : Aims c k off := by revert c; decide +kernel) (h0' : off' = off := by rfl) :
    Tri X K c (.send k :: l) l' (if h : b = 1#1 then Prog.lift (.enqueueDma (oSl off' (ho' h))
      (.remote (Dev.tc (d h) : Thread nD τ) (oSl off (ho h)) (.dma s₁) (hsc h)) (.dma s₂) (hsrc h) (hdst h) (hsem h)) >>= fun _ => rest else rest) V :=
  tri_if hb (fun h g => ⟨_, rfl, does_send_o X K c k g hk (hd h) hs₁ hs₂ h0.1 (h0.2 g) (by rw [h0']; exact h0.1) (by rw [h0'])⟩) h

/-- A wait and the send that passes the rows on, under one conditional. -/
theorem tri_wait_send {b : BitVec 1} {k k' : ℕ} {s : DmaSem sig} {sp sp' : Space} {src : b = 1#1 → Memref sig .tc sp' S128x512 .f32}
    {dst : b = 1#1 → Memref sig .tc sp S128x512 .f32} {hsrc' : ∀ h, (src h).view.WordExact} {hdst' : ∀ h, (dst h).view.WordExact}
    {d : b = 1#1 → Dev nD} {s₁ s₂ : DmaSem sig} {off off' : Fin 2 → ℕ}
    {ho : b = 1#1 → ∀ a, off a + S128x512.size a ≤ S8192x512.size a} {ho' : b = 1#1 → ∀ a, off' a + S128x512.size a ≤ S8192x512.size a}
    {hsc : ∀ h, (oSl off (ho h)).view.ref.isScScratch = false}
    {hsrc : ∀ h, (oSl off' (ho' h)).view.WordExact} {hdst : ∀ h, (oSl off (ho h)).view.WordExact}
    {hsem : ∀ h, DmaTarget.Typed (nD := nD) .hbm (.dma s₂) (.remote (Dev.tc (d h) : Thread nD τ) (oSl off (ho h)) (.dma s₁) (hsc h))}
    {rest : Prog (TpuEff nD τ sig (Elt F) Λ₀ .tc) α} (h : Tri X K c l l' rest V)
    (hb : Iff (b = 1#1) (guard (yc c) (.wait k') = true) ∧ Iff (b = 1#1) (guard (yc c) (.send k) = true) := by revert c; decide +kernel)
    (hk' : k' ≠ 0 ∧ k' ≠ 193 := by decide) (hs : s = dsem k' := by rfl) (hc : ∀ h, (dst h).view.dmaCredit = N := by exact fun _ => rfl)
    (hd : ∀ h, d h = tgt c k := by revert c; decide +kernel) (hk : ¬ (arr k < 2 ∧ stp k = 0) := by decide)
    (hs₁ : s₁ = dsem k := by rfl) (hs₂ : s₂ = dsem (k + 96) := by rfl)
    (h0 : Aims c k off := by revert c; decide +kernel) (h0' : off' = off := by rfl) :
    Tri X K c (.wait k' :: .send k :: l) l' (if h : b = 1#1 then Prog.lift (.waitDma2 s (src h) (dst h) (hsrc' h) (hdst' h)) >>= fun _ =>
      Prog.lift (.enqueueDma (oSl off' (ho' h))
      (.remote (Dev.tc (d h) : Thread nD τ) (oSl off (ho h)) (.dma s₁) (hsc h)) (.dma s₂) (hsrc h) (hdst h) (hsem h)) >>= fun _ => rest else rest) V :=
  tri_if₂ hb (fun h g => ⟨_, rfl, does_wait X K c k' g hs ((hc h).trans (amt_copy c hk'))⟩)
    (fun h g => ⟨_, rfl, does_send_o X K c k g hk (hd h) hs₁ hs₂ h0.1 (h0.2 g) (by rw [h0']; exact h0.1) (by rw [h0'])⟩) h

end Cert.Ring

end
-- ==== Proof.Parts.lean ====
/-
# The parts of the kernel: the barrier, the sends and the chain along the line

Each part of the printed kernel takes its steps of the plan, in the plan's order. The steps are listed in the statement; the proof
reads them off, one rule for each step.
-/
module

public import proofs.«01_k».proof.Proof.Engine

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {X : Dev nD → S2048x512.Idx → Elt F .f32} {K : Dev nD × Fin 194 → ℕ} {c : Dev nD} {l : List Step}
  {h₀ : (Memref.whole cc0_stg0_0 : Memref sig .tc .vmem S2048x512 .f32).IsWhole}
  {h₁ : (Memref.whole main_v1 : Memref sig .tc .hbm S8192x512 .f32).IsWhole}

/-- The word by which the kernel tells whether the device stands at an end of its line. -/
def word (c : Dev nD) : BitVec 32 :=
  Scalar.extui (Scalar.xori (Scalar.andi (Scalar.cmpi .sge (Scalar.remsi (Scalar.divsi (Dev.word c) 4#32) 4#32) 1#32)
    (Scalar.cmpi .sle (Scalar.remsi (Scalar.divsi (Dev.word c) 4#32) 4#32) 2#32)) 1#1)

/-- Part 1: the signals to the neighbours, and the wait of a device that has two neighbours in its line. It returns the device,
the barrier's cell and the word of the other case. -/
theorem part_1 : Tri X K c ([.sig 0, .sig 1, .sig 2, .barrier 3] ++ l) l
    (k0_part1 (F := F) (Memref.whole cc0_stg0_0) h₀ (Memref.whole main_v1) h₁ cc0_scratch0 cc0_scratch1 cc0_scratch2 cc0_scratch3
      cc0_scratch4 cc0_scratch5 cc0_scratch6 cc0_scratch7 cc0_scratch8) fun v =>
      ∃ v2 v5 v8 v9 v10 v11 v13 v15, v = ⟨c, v2, v5, v8, v9, v10, v11, v13, v15, SemArray.scalar (sig.barrier 0 rfl), word c, 0#32⟩ := by
  rw [k0_part1_eq_skeleton]
  unfold k0_part1_skel
  refine tri_dev ?_
  refine tri_sig₀ ?_
  refine tri_sig (j := 1) ?_
  refine tri_sig (j := 2) ?_
  refine tri_bar ?_
  exact tri_ret ⟨_, _, _, _, _, _, _, _, rfl⟩

/-- Part 2. -/
theorem part_2 : ∀ {v2 v5 v8 v9 v10 v13 v15}, Tri X K c ([
    .barrier 2, .send 1, .send 25, .send 2, .send 26, .send 3, .send 27, .send 4, .send 28, .send 5, .send 29, .send 6, .send 30,
    .send 7, .send 31] ++ l) l
    (k0_part2 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v9 v10 v13 v15 (SemArray.scalar (sig.barrier 0 rfl)) (word c) 0#32) fun _ => True := by
  intros
  rw [k0_part2_eq_skeleton]
  unfold k0_part2_skel
  repeat first | exact tri_ret trivial | refine tri_bar ?_ | refine tri_send_i ?_

/-- Part 3. -/
theorem part_3 : ∀ {v2 v5 v8 v10 v11 v13 v15 v61 c0_i32_30}, Tri X K c ([
    .send 8, .send 32, .own, .wait 97, .send 49, .wait 121, .send 73, .wait 98, .send 50, .wait 122, .send 74, .wait 99,
    .send 51, .wait 123, .send 75] ++ l) l
    (k0_part3 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v10 v11 v13 v15 v61 c0_i32_30) fun _ => True := by
  intros
  rw [k0_part3_eq_skeleton]
  unfold k0_part3_skel
  repeat first | exact tri_ret trivial | refine tri_send_i ?_ | refine tri_wait_send ?_ | refine tri_own ?_

/-- Part 4. -/
theorem part_4 : ∀ {v2 v5 v8 v9 v10 v11 v13 v15 v69 v72 v75 v78 v91}, Tri X K c ([
    .wait 100, .send 52, .wait 124, .send 76, .wait 101, .send 53, .wait 125, .send 77, .wait 102, .send 54, .wait 126, .send 78,
    .wait 103, .send 55, .wait 127, .send 79, .wait 104, .send 56, .wait 128, .send 80] ++ l) l
    (k0_part4 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v9 v10 v11 v13 v15 v69 v72 v75 v78 v91) fun _ => True := by
  intros
  rw [k0_part4_eq_skeleton]
  unfold k0_part4_skel
  repeat first | exact tri_ret trivial | refine tri_wait_send ?_

/-- Part 5. -/
theorem part_5 : ∀ {v2 v5 v8 v13 v15 v112 v114 v117 v120 v121 c1_i32_70}, Tri X K c ([
    .send 9, .send 33, .send 10, .send 34, .send 11, .send 35, .send 12, .send 36, .send 13] ++ l) l
    (k0_part5 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v13 v15 v112 v114 v117 v120 v121 c1_i32_70) fun _ => True := by
  intros
  rw [k0_part5_eq_skeleton]
  unfold k0_part5_skel
  repeat first | exact tri_ret trivial | refine tri_send_o ?_

/-- Part 6. -/
theorem part_6 : ∀ {v2 v5 v8 v11 v13 v15 v112 v114 v117 v120 v123 v126 v129 v132}, Tri X K c ([
    .send 37, .send 14, .send 38, .send 15, .send 39, .send 16, .send 40, .wait 105, .send 57, .wait 129, .send 81, .wait 106,
    .send 58, .wait 130, .send 82, .wait 107, .send 59, .wait 131, .send 83, .wait 108, .send 60, .wait 132, .send 84] ++ l) l
    (k0_part6 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v11 v13 v15 v112 v114 v117 v120 v123 v126 v129 v132) fun _ => True := by
  intros
  rw [k0_part6_eq_skeleton]
  unfold k0_part6_skel
  repeat first | exact tri_ret trivial | refine tri_send_o ?_ | refine tri_wait_send ?_

/-- Part 7. -/
theorem part_7 : ∀ {v2 v5 v8 v9 v10 v11 v13 v15 v123 v126 v129 v132}, Tri X K c ([
    .wait 109, .send 61, .wait 133, .send 85, .wait 110, .send 62, .wait 134, .send 86, .wait 111, .send 63, .wait 135, .send 87,
    .wait 112, .send 64, .wait 136, .send 88] ++ l) l
    (k0_part7 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v9 v10 v11 v13 v15 v123 v126 v129 v132) fun _ => True := by
  intros
  rw [k0_part7_eq_skeleton]
  unfold k0_part7_skel
  repeat first | exact tri_ret trivial | refine tri_wait_send ?_

/-- Part 8. -/
theorem part_8 : ∀ {v2 v5 v8 v13 v15 v198 v200 v203 v206 c1_i32_127}, Tri X K c ([
    .send 17, .send 41, .send 18, .send 42, .send 19, .send 43, .send 20, .send 44, .send 21, .send 45, .send 22, .send 46] ++ l) l
    (k0_part8 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v13 v15 v198 v200 v203 v206 c1_i32_127) fun _ => True := by
  intros
  rw [k0_part8_eq_skeleton]
  unfold k0_part8_skel
  repeat first | exact tri_ret trivial | refine tri_send_o ?_

/-- Part 9. -/
theorem part_9 : ∀ {v2 v5 v8 v11 v13 v15 v198 v200 v203 v206 v209 v212 v215 v218 v243}, Tri X K c ([
    .send 23, .send 47, .send 24, .send 48, .wait 113, .send 65, .wait 137, .send 89, .wait 114, .send 66, .wait 138, .send 90,
    .wait 115, .send 67, .wait 139, .send 91, .wait 116, .send 68, .wait 140, .send 92, .wait 117, .send 69, .wait 141, .send 93,
    .wait 118, .send 70] ++ l) l
    (k0_part9 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v11 v13 v15 v198 v200 v203 v206 v209 v212 v215 v218 v243) fun _ => True := by
  intros
  rw [k0_part9_eq_skeleton]
  unfold k0_part9_skel
  repeat first | exact tri_ret trivial | refine tri_send_o ?_ | refine tri_wait_send ?_

/-- Part 10. -/
theorem part_10 : ∀ {v2 v5 v8 v9 v10 v11 v13 v15 v209 v212 v215 v218 v273}, Tri X K c ([
    .wait 142, .send 94, .wait 119, .send 71, .wait 143, .send 95, .wait 120, .send 72, .wait 144, .send 96] ++ l) l
    (k0_part10 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v9 v10 v11 v13 v15 v209 v212 v215 v218 v273) fun _ => True := by
  intros
  rw [k0_part10_eq_skeleton]
  unfold k0_part10_skel
  repeat first | exact tri_ret trivial | refine tri_wait_send ?_ | refine tri_wait₂ ?_ | refine tri_wait ?_

end Cert.Ring

end
-- ==== Proof.Waits.lean ====
/-
# The parts of the kernel: the last waits

Each part of the printed kernel takes its steps of the plan.
-/
module

public import proofs.«01_k».proof.Proof.Engine

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {X : Dev nD → S2048x512.Idx → Elt F .f32} {K : Dev nD × Fin 194 → ℕ} {c : Dev nD} {l : List Step}
  {h₀ : (Memref.whole cc0_stg0_0 : Memref sig .tc .vmem S2048x512 .f32).IsWhole}
  {h₁ : (Memref.whole main_v1 : Memref sig .tc .hbm S8192x512 .f32).IsWhole}

/-- Part 11. -/
theorem part_11 : ∀ {v2 v5 v8 v11 v283 v286 v289 v292 v295 v298 v301 v303 c0_i32_184}, Tri X K c ([
    .wait 145, .wait 49, .wait 169, .wait 73, .wait 1, .wait 25, .wait 146, .wait 50, .wait 170, .wait 74, .wait 2, .wait 26,
    .wait 147, .wait 51, .wait 171, .wait 75, .wait 3, .wait 27, .wait 148, .wait 52, .wait 172, .wait 76] ++ l) l
    (k0_part11 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v11 v283 v286 v289 v292 v295 v298 v301 v303 c0_i32_184) fun _ => True := by
  intros
  rw [k0_part11_eq_skeleton]
  unfold k0_part11_skel
  iterate 2 refine tri_wait₂ ?_
  iterate 2 refine tri_wait ?_
  iterate 2 refine tri_wait₂ ?_
  iterate 2 refine tri_wait ?_
  iterate 2 refine tri_wait₂ ?_
  iterate 2 refine tri_wait ?_
  iterate 2 refine tri_wait₂ ?_
  exact tri_ret trivial

/-- Part 12. -/
theorem part_12 : ∀ {v2 v5 v8 v11 v283 v286 v289 v292 v295 v298 v301 v303 v305 v334}, Tri X K c ([
    .wait 4, .wait 28, .wait 149, .wait 53, .wait 173, .wait 77, .wait 5, .wait 29, .wait 150, .wait 54, .wait 174, .wait 78,
    .wait 6, .wait 30, .wait 151, .wait 55, .wait 175, .wait 79, .wait 7, .wait 31, .wait 152, .wait 56] ++ l) l
    (k0_part12 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v11 v283 v286 v289 v292 v295 v298 v301 v303 v305 v334) fun _ => True := by
  intros
  rw [k0_part12_eq_skeleton]
  unfold k0_part12_skel
  iterate 2 refine tri_wait ?_
  iterate 2 refine tri_wait₂ ?_
  iterate 2 refine tri_wait ?_
  iterate 2 refine tri_wait₂ ?_
  iterate 2 refine tri_wait ?_
  iterate 2 refine tri_wait₂ ?_
  iterate 2 refine tri_wait ?_
  refine tri_wait₂ ?_
  exact tri_ret trivial

/-- Part 13. -/
theorem part_13 : ∀ {v2 v5 v8 v9 v10 v11 v283 v292 v295 v301 v303 v305 v364}, Tri X K c ([
    .wait 176, .wait 80, .wait 8, .wait 32, .wait 153, .wait 57] ++ l) l
    (k0_part13 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v9 v10 v11 v283 v292 v295 v301 v303 v305 v364) fun _ => True := by
  intros
  rw [k0_part13_eq_skeleton]
  unfold k0_part13_skel
  refine tri_wait₂ ?_
  iterate 2 refine tri_wait ?_
  refine tri_wait₂ ?_
  exact tri_ret trivial

/-- Part 14. -/
theorem part_14 : ∀ {v2 v5 v8 v11 v283 v372 v375 v378 v381 v384 v387 v389 v391}, Tri X K c ([
    .wait 177, .wait 81, .wait 9, .wait 33, .wait 154, .wait 58, .wait 178, .wait 82, .wait 10, .wait 34, .wait 155, .wait 59,
    .wait 179, .wait 83, .wait 11, .wait 35, .wait 156, .wait 60, .wait 180, .wait 84, .wait 12, .wait 36] ++ l) l
    (k0_part14 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v11 v283 v372 v375 v378 v381 v384 v387 v389 v391) fun _ => True := by
  intros
  rw [k0_part14_eq_skeleton]
  unfold k0_part14_skel
  refine tri_wait₂ ?_
  iterate 2 refine tri_wait ?_
  iterate 2 refine tri_wait₂ ?_
  iterate 2 refine tri_wait ?_
  iterate 2 refine tri_wait₂ ?_
  iterate 2 refine tri_wait ?_
  iterate 2 refine tri_wait₂ ?_
  iterate 2 refine tri_wait ?_
  exact tri_ret trivial

/-- Part 15. -/
theorem part_15 : ∀ {v2 v5 v8 v11 v283 v372 v375 v378 v381 v384 v387 v389 v391}, Tri X K c ([
    .wait 157, .wait 61, .wait 181, .wait 85, .wait 13, .wait 37, .wait 158, .wait 62, .wait 182, .wait 86, .wait 14, .wait 38,
    .wait 159, .wait 63, .wait 183, .wait 87, .wait 15, .wait 39, .wait 160, .wait 64, .wait 184, .wait 88, .wait 16] ++ l) l
    (k0_part15 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v11 v283 v372 v375 v378 v381 v384 v387 v389 v391) fun _ => True := by
  intros
  rw [k0_part15_eq_skeleton]
  unfold k0_part15_skel
  iterate 2 refine tri_wait₂ ?_
  iterate 2 refine tri_wait ?_
  iterate 2 refine tri_wait₂ ?_
  iterate 2 refine tri_wait ?_
  iterate 2 refine tri_wait₂ ?_
  iterate 2 refine tri_wait ?_
  iterate 2 refine tri_wait₂ ?_
  refine tri_wait ?_
  exact tri_ret trivial

/-- Part 16. -/
theorem part_16 : ∀ {v2 v5 v8 v9 v10 v11 v283 v391}, Tri X K c ([
    .wait 40, .wait 161, .wait 65, .wait 185, .wait 89, .wait 17, .wait 41] ++ l) l
    (k0_part16 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v9 v10 v11 v283 v391) fun _ => True := by
  intros
  rw [k0_part16_eq_skeleton]
  unfold k0_part16_skel
  refine tri_wait ?_
  iterate 2 refine tri_wait₂ ?_
  iterate 2 refine tri_wait ?_
  exact tri_ret trivial

/-- Part 17. -/
theorem part_17 : ∀ {v2 v5 v8 v11 v283 v458 v461 v464 v467 v470 v473 v475 v477 v486}, Tri X K c ([
    .wait 162, .wait 66, .wait 186, .wait 90, .wait 18, .wait 42, .wait 163, .wait 67, .wait 187, .wait 91, .wait 19, .wait 43,
    .wait 164, .wait 68, .wait 188, .wait 92, .wait 20, .wait 44, .wait 165, .wait 69, .wait 189, .wait 93, .wait 21] ++ l) l
    (k0_part17 (F := F) (Memref.whole cc0_stg0_0) h₀ (Memref.whole main_v1) h₁ cc0_scratch0 cc0_scratch1 cc0_scratch2 cc0_scratch3
      cc0_scratch4 cc0_scratch5 cc0_scratch6 cc0_scratch7 cc0_scratch8 c v2 v5 v8 v11 v283 v458 v461 v464 v467 v470 v473 v475 v477 v486) fun _ => True := by
  intros
  rw [k0_part17_eq_skeleton]
  unfold k0_part17_skel
  iterate 2 refine tri_wait₂ ?_
  iterate 2 refine tri_wait ?_
  iterate 2 refine tri_wait₂ ?_
  iterate 2 refine tri_wait ?_
  iterate 2 refine tri_wait₂ ?_
  iterate 2 refine tri_wait ?_
  iterate 2 refine tri_wait₂ ?_
  refine tri_wait ?_
  exact tri_ret trivial

end Cert.Ring

end
-- ==== Proof.Body.lean ====
/-
# The body of the kernel

The parts put together: the whole body takes the steps of the plan, from the first to the last.
-/
module

public import proofs.«01_k».proof.Proof.Parts
public import proofs.«01_k».proof.Proof.Waits

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {X : Dev nD → S2048x512.Idx → Elt F .f32} {K : Dev nD × Fin 194 → ℕ} {c : Dev nD} {l : List Step}
  {h₀ : (Memref.whole cc0_stg0_0 : Memref sig .tc .vmem S2048x512 .f32).IsWhole}
  {h₁ : (Memref.whole main_v1 : Memref sig .tc .hbm S8192x512 .f32).IsWhole}

variable {α : Type} {l' l'' : List Step} {V : α → Prop}

/-- A list of steps may be written in another way. -/
theorem tri_list {p : Prog (TpuEff nD τ sig (Elt F) Λ₀ .tc) α} (h : Tri X K c l' l p V) (e : l'' = l' := by decide +kernel) :
    Tri X K c l'' l p V := e ▸ h

/-- A part takes the steps of the plan from number `a` to number `b`, and what follows it takes the others. -/
theorem tri_next {β : Type} {a : ℕ} (b : ℕ) {p : Prog (TpuEff nD τ sig (Elt F) Λ₀ .tc) β}
    {k : β → Prog (TpuEff nD τ sig (Elt F) Λ₀ .tc) α} {V' : β → Prop} (hp : Tri X K c (l' ++ prog.drop b) (prog.drop b) p V')
    (hk : ∀ v, V' v → Tri X K c (prog.drop b) l (k v) V) (e : prog.drop a = l' ++ prog.drop b := by decide +kernel) :
    Tri X K c (prog.drop a) l (p >>= k) V :=
  tri_list (tri_bind hp hk) e

set_option maxHeartbeats 4000000 in
/-- The parts, one after the other: all steps of the plan but the last three. -/
theorem part_18 : Tri X K c (prog.drop 0) [.wait 24, .wait 48, .wait 193]
    (k0_part18 (F := F) (Memref.whole cc0_stg0_0) h₀ (Memref.whole main_v1) h₁ cc0_scratch0 cc0_scratch1 cc0_scratch2 cc0_scratch3
      cc0_scratch4 cc0_scratch5 cc0_scratch6 cc0_scratch7 cc0_scratch8) fun v => v.1 = c := by
  rw [k0_part18_eq_skeleton]
  unfold k0_part18_skel
  refine tri_next 4 part_1 ?_
  rintro _ ⟨v2, v5, v8, v9, v10, v11, v13, v15, rfl⟩
  refine tri_next 19 part_2 ?_
  rintro ⟨_, _⟩ -
  refine tri_next 34 part_3 ?_
  rintro ⟨_, _, _, _, _⟩ -
  refine tri_next 54 part_4 ?_
  rintro ⟨_, _, _, _, _, _⟩ -
  refine tri_next 63 part_5 ?_
  rintro ⟨_, _, _, _⟩ -
  refine tri_next 86 part_6 ?_
  rintro _ -
  refine tri_next 102 part_7 ?_
  rintro ⟨_, _, _, _, _, _, _⟩ -
  refine tri_next 114 part_8 ?_
  rintro ⟨_, _, _⟩ -
  refine tri_next 140 part_9 ?_
  rintro _ -
  refine tri_next 150 part_10 ?_
  rintro ⟨_, _, _, _, _, _, _, _, _⟩ -
  refine tri_next 172 part_11 ?_
  rintro ⟨_, _⟩ -
  refine tri_next 194 part_12 ?_
  rintro _ -
  refine tri_next 200 part_13 ?_
  rintro ⟨_, _, _, _, _, _, _, _⟩ -
  refine tri_next 222 part_14 ?_
  rintro _ -
  refine tri_next 245 part_15 ?_
  rintro _ -
  refine tri_next 252 part_16 ?_
  rintro ⟨_, _, _, _, _, _, _, _, _⟩ -
  refine tri_next 275 part_17 ?_
  rintro _ -
  refine tri_list (l' := [
    .wait 45, .wait 166, .wait 70, .wait 190, .wait 94, .wait 22, .wait 46, .wait 167, .wait 71, .wait 191, .wait 95, .wait 23,
    .wait 47, .wait 168, .wait 72, .wait 192, .wait 96, .wait 24, .wait 48, .wait 193]) ?_
  refine tri_wait ?_
  iterate 2 refine tri_wait₂ ?_
  iterate 2 refine tri_wait ?_
  iterate 2 refine tri_wait₂ ?_
  iterate 2 refine tri_wait ?_
  iterate 2 refine tri_wait₂ ?_
  exact tri_ret rfl

/-- The body takes all steps of the plan. -/
theorem body : Tri X K c prog []
    (cc0_body (F := F) (Memref.whole cc0_stg0_0) h₀ (Memref.whole main_v1) h₁ cc0_scratch0 cc0_scratch1 cc0_scratch2 cc0_scratch3
      cc0_scratch4 cc0_scratch5 cc0_scratch6 cc0_scratch7 cc0_scratch8) fun _ => True := by
  rw [cc0_body_eq_skeleton]
  unfold cc0_body_skel
  refine tri_bind part_18 ?_
  rintro ⟨d, _, _, _, _, _⟩ (h : d = c)
  subst d
  iterate 2 refine tri_wait ?_
  refine tri_wait_own ?_
  exact tri_ret trivial

end Cert.Ring

end
-- ==== Proof.Launch.lean ====
/-
# The run of the whole program

The kernel's body on every device, from what the launch deals it, and what every final state of the program looks like.
-/
module

public import proofs.«01_k».proof.Proof.Setup
public import proofs.«01_k».proof.Proof.Body
public import proofs.«01_k».proof.Proof.Gen.KernelIdeal.Points
public import Idealize.ShloMosaic.Lib.Pipeline.CollectiveSegs
public import Idealize.ShloMosaic.Adequacy
public import Idealize.ShloMosaic.Init

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument as staged on a device. -/
def xs (c : Dev nD) : S2048x512.Idx → Elt F .f32 := (win0_0.blk (0 : Fin 1)).view.read (Elt F) (m ((c : Thread nD τ).loc main_arg0))

/-- What a device's body starts from, besides its staged argument. -/
def Φ₀ (c : Dev nD) : sProp 𝕄 := iprop(∃ K, known (xs m) K ∗ held (xs m) c)
/-- What it ends with: its semaphores at zero and the whole result. -/
def Φ₁ (c : Dev nD) : sProp 𝕄 := iprop(zeros c ∗ (oLoc c ↦{fullShare} fin (xs m) c))

def dats (_ : Fin 1) (c : Dev nD) : Dat τ (Elt F) Unit ℕ UU ℕ cfg0 c where
  A w := m ((cfg0.win w).arr.view.loc (c : Thread nD τ))
  after w _ := match w with
    | ⟨0, _⟩ => xs m c
  Φ t := match t with
    | ⟨0, _⟩ => Φ₀ m c
    | ⟨_ + 1, _⟩ => Φ₁ m c
  q _ := fullShare
  owed t := match t with
    | ⟨0, _⟩ => owl c prog
    | ⟨_ + 1, _⟩ => 0

theorem bigSep_W (Φ : Fin cfg0.W → sProp 𝕄) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves before its cells are closed. -/
def left (c : Dev nD) : sProp 𝕄 :=
  iprop(zeros c ∗ (oLoc c ↦{fullShare} fin (xs m) c) ∗ reads (xs m) c ∗ ∃ W, owes (c : Thread nD τ) 0 W)

/-- The body runs the plan from the starting stock; what it ends with is the whole result. -/
theorem runs_body (K : Dev nD × Fin 194 → ℕ) (c : Dev nD) (W : Waits sig Unit)
    (h₀ : (Memref.whole cc0_stg0_0 : Memref sig .tc .vmem S2048x512 .f32).IsWhole)
    (h₁ : (Memref.whole main_v1 : Memref sig .tc .hbm S8192x512 .f32).IsWhole) :
    iprop(known (xs m) K ∗ all (φ (xs m) c) (start (yc c)) ∗ owes (c : Thread nD τ) (owl c prog) W)
      ⊢ wp frame (wpE (defs₀ (F := F)) 𝒱₀ c none) Set.univ
          (cc0_body (F := F) (Memref.whole cc0_stg0_0) h₀ (Memref.whole main_v1) h₁ cc0_scratch0 cc0_scratch1 cc0_scratch2 cc0_scratch3
            cc0_scratch4 cc0_scratch5 cc0_scratch6 cc0_scratch7 cc0_scratch8) (fun _ => left m c) := by
  have hb := body (F := F) (X := xs m) (K := K) (c := c) (h₀ := h₀) (h₁ := h₁)
  unfold Tri at hb
  refine BIBase.Entails.trans (hb (fun _ => iprop(|={Set.univ}=> left m c)) (fun v A W' _ hA => ?_) _ W (chk_start ⟨yc c, yc_lt c⟩))
    (wp_fupd frame (wpE (defs₀ (F := F)) 𝒱₀ c none) Set.univ _ _)
  clear hb
  have h1 := end_finish (xs m) c hA
  have h2 := finish_end (xs m) K c
  iintro ⟨HK, HA, HO⟩
  ihave HF := h1 $$ HA
  imod h2 $$ [HK HF] with ⟨Hz, Ho, Hr⟩
  · isplitl [HK] <;> iassumption
  imodintro
  unfold left
  isplitl [Hz]; · iexact Hz
  isplitl [Ho]; · iexact Ho
  isplitl [Hr]; · iexact Hr
  iexists W'; iexact HO

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (xs m c))

theorem left_post (c : Dev nD) : iprop(left m c ∗ unread (xs m) c) ⊢ bodyPost m c := by
  have e := Entails.of_eq (in_cut (xs m) c).symm
  unfold left bodyPost Φ₁ Dat.owesAt Pipeline.owesWithin
  rw [show (dats m 0 c).owed t0_0.succ = 0 from rfl]
  iintro ⟨⟨Hz, Ho, Hr, ⟨%W, HO⟩⟩, Hu⟩
  isplitl [Hz Ho]
  · isplitl [Hz] <;> iassumption
  isplitl [HO]
  · iexists W
    isplitr; · ipureintro; exact fun _ _ => Or.inl trivial
    iexact HO
  iexists (xs m c)
  isplitr; · ipureintro; rfl
  iapply e
  isplitl [Hr] <;> iassumption

theorem sound_body (c : Dev nD)
    (h₀ : (Memref.whole cc0_stg0_0 : Memref sig .tc .vmem S2048x512 .f32).IsWhole)
    (h₁ : (Memref.whole main_v1 : Memref sig .tc .hbm S8192x512 .f32).IsWhole) :
    bodyPre m c
      ⊢ wp frame (wpE (defs₀ (F := F)) 𝒱₀ c none) Set.univ
          (cc0_body (F := F) (Memref.whole cc0_stg0_0) h₀ (Memref.whole main_v1) h₁ cc0_scratch0 cc0_scratch1 cc0_scratch2 cc0_scratch3
            cc0_scratch4 cc0_scratch5 cc0_scratch6 cc0_scratch7 cc0_scratch8) (fun _ => bodyPost m c) := by
  have e := Entails.of_eq (in_cut (xs m) c)
  have hs := held_start (xs m) c
  refine BIBase.Entails.trans ?_ (wp_mono frame (wpE (defs₀ (F := F)) 𝒱₀ c none) Set.univ fun _ => left_post m c)
  refine BIBase.Entails.trans ?_ (wp_frame_r frame (wpE (defs₀ (F := F)) 𝒱₀ c none) Set.univ)
  unfold bodyPre Φ₀ Dat.owesAt Pipeline.owesWithin
  rw [show (dats m 0 c).owed t0_0.castSucc = owl c prog from rfl]
  iintro ⟨⟨%K, HK, Hh⟩, ⟨%W, %hW, HO⟩, ⟨%d, %g, %hg, Hx⟩⟩
  have hx : g = xs m c := by rw [hg]; unfold Dat.before; rw [if_pos (fetch0_0 t0_0)]; rfl
  subst hx
  ihave Hx := e $$ Hx
  icases Hx with ⟨Hr, Hu⟩
  isplitr [Hu]
  · iapply (runs_body m K c W h₀ h₁)
    isplitl [HK]; · iexact HK
    isplitr [HO]
    · iapply hs
      isplitl [Hh] <;> iassumption
    · iexact HO
  · iexact Hu

set_option maxRecDepth 4000 in
/-- The library's body obligation on a device. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c _ _

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owl d prog) c ∗ prngReg c (ρ c) ∗ G' (xs m) c)
      ⊢ |={Set.univ}=> iprop(Φ₀ m c ∗ emp) := by
  have e1 := out_start (xs m) c (m (oLoc c))
  have e2 := creds (xs m) c
  have e3 : (Pipeline.unscopedRestP (Ix := Unit) (Name := ℕ) (U := UU) (Lvl := ℕ) Pipeline.Prefetch.none cfg0.spec c (fun b => m ((c : Thread nD τ).loc b)) : sProp 𝕄)
      = (oLoc c ↦{fullShare} m (oLoc c)) := by
    rw [Pipeline.unscopedRestP_none]; exact unscopedRest0_eq c _
  rw [e3]
  unfold G' Φ₀ known held
  iintro ⟨Ho, Hlev, Hcr, -, ⟨%K, HR, Hp, Ht⟩⟩
  ihave Hc := e2 $$ Hcr
  ihave Hs := e1 $$ Ho
  icases Hs with ⟨Hs, Hd⟩
  imodintro
  isplitl
  · iexists K
    isplitl [HR Hlev]
    · isplitl [HR] <;> iassumption
    isplitl [Hp]; · iexact Hp
    isplitl [Ht]; · iexact Ht
    isplitl [Hc]; · iexact Hc
    isplitl [Hs] <;> iassumption
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨H, -, -⟩
  iexact H

/-- What a device's run ends with: the barrier at zero and the result. -/
def Y (c : Dev nD) : sProp 𝕄 := iprop(unscopedSems0 c ∗ (oLoc c ↦{fullShare} fin (xs m) c))

theorem phi1_exit (c : Dev nD) :
    (dats m 0 c).Φ (Fin.last cfg0.N) ⊢ iprop(Y m c ∗ Pipeline.ownSems0 osem c ∗ Pipeline.scopedRest cfg0.spec c) := by
  have e1 : (Pipeline.scopedRest (Ix := Unit) (Name := ℕ) (U := UU) (Lvl := ℕ) (Val := Elt F) cfg0.spec c : sProp 𝕄) = BI.emp := scopedRest0_eq c
  rw [show (dats m 0 c).Φ (Fin.last cfg0.N) = Φ₁ m c from rfl, e1]
  have e := Entails.of_eq (zeros_eq (F := F) c)
  unfold Φ₁ Y
  iintro ⟨Hz, Ho⟩
  ihave Hz := e $$ Hz
  icases Hz with ⟨Hu, Hs⟩
  isplitl [Hu Ho]
  · isplitl [Hu] <;> iassumption
  isplitl [Hs]; · iexact Hs
  iempintro

theorem start_above : ∀ y : Fin 4, above y.val 0 prog = true := by decide +kernel
theorem stage_level : ∀ w s, lv (((0 : Dev nD) : Thread nD τ), .dma ((cfg0.spec w).sem s)) () ≤ 0 := by decide +kernel

theorem stage_low (c : Dev nD) (w : Fin cfg0.W) (s) : lv ((c : Thread nD τ), .dma ((cfg0.spec w).sem s)) () ≤ 0 := stage_level w s

theorem waits_stage (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 (stage_low c w s) (start_above ⟨yc c, yc_lt c⟩)
    · exact mayWait (l := []) c _ 0 (stage_low c w s) rfl

/-! ## The run -/

/-- What every final state looks like: on every device the result holds the gathered rows, the argument what it held, and
    every semaphore is at zero. -/
def QC : PUnit × MemSt nD τ sig (Elt F) → Prop := fun r =>
  (∀ c : Dev nD, r.2.mem (oLoc c) = fin (xs m) c ∧ r.2.mem ((c : Thread nD τ).loc main_arg0) = m ((c : Thread nD τ).loc main_arg0))
    ∧ r.2.sem = fun _ => 0

/-- The array of the argument after the run is the one before. -/
theorem arg_kept (c : Dev nD) : (dats m 0 c).arrAt (0 : Fin 1) cfg0.N = m ((c : Thread nD τ).loc main_arg0) :=
  (dats (F := F) m 0 c).arrAt_in (0 : Fin 1) rfl _

/-- The memory of a result held whole is what it is held at. -/
theorem out_read (c : Dev nD) (f : S8192x512.Idx → Elt F .f32) (s : Phys nD τ sig (Elt F)) :
    iprop((oLoc c ↦{fullShare} f) ∗ SI s) ⊢ (⌜s.mem.mem (oLoc c) = f⌝ : sProp 𝕄) := by
  have h := SI_pointsTo_agree (Ix := Unit) (Name := ℕ) (U := UU) (Lvl := ℕ) (st := s) (ℓ := oLoc c) (I := Finset.univ) (q := fullShare) (f := f)
  iintro ⟨Ho, HS⟩
  ihave %H := h $$ [Ho HS]
  · isplitl [HS] <;> iassumption
  ipureintro
  exact funext fun i => H i (Finset.mem_univ i)

theorem final_read (c : Dev nD) (s' : Phys nD τ sig (Elt F)) :
    iprop(Y m c ∗ emp ∗ SI s') ⊢ |={Set.univ}=> (iprop(⌜s'.mem.mem (oLoc c) = fin (xs m) c
      ∧ ∀ sm : SemLoc sig, sm.isScoped .tc = false → s'.mem.sem ((c.tc : Thread nD τ), sm) = 0⌝ ∗ SI s') : sProp 𝕄) := by
  have h1 := out_read c (fin (xs m) c) s'
  have h2 := Pipeline.unscopedSems0_read (Ix := Unit) (Name := ℕ) (U := UU) (Lvl := ℕ) (X := unscopedSems0 c) (c := c) fupd_intro s'
  unfold Y
  iintro ⟨⟨Hu, Ho⟩, -, HSI⟩
  ihave %H1 := h1 $$ [Ho HSI]
  · isplitl [Ho] <;> iassumption
  imod h2 $$ [Hu HSI] with ⟨%H2, HSI⟩
  · isplitl [Hu] <;> iassumption
  imodintro
  isplitr; · ipureintro; exact ⟨H1, H2⟩
  iexact HSI

set_option maxRecDepth 8000 in
/-- From any memory with semaphores at zero, for any float values, every weakly fair execution of the program on the 32
    devices terminates, and every final state is as `QC` says. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owl d prog) (howed₀ := fun _ => rfl) (howedN := fun _ => rfl)
    (L := L) (lv := lv) (hL := L_of_ne) (hwaits := waits_stage m)
    (G := G (xs m)) (G' := G' (xs m)) (u₀ := u₀)
    (hu₀ := by
      unfold u₀
      iintro Hu
      ihave H := (ownU_pair _ _) $$ Hu
      icases H with ⟨HP, HX⟩
      imod (fund_ring (xs m)) $$ HX with HG
      imodintro
      isplitl [HP] <;> iassumption)
    (hglob := glob (xs m))
    (hA := fun _ _ => rfl) (hpf := fun _ k => k.elim0)
    (X := Φ₀ m) (Y := Y m) (Z := fun _ => iprop(emp))
    (hX := start_intro m ρ) (hin := phi0_intro m) (hout := phi1_exit m)
    (QY := fun c s => s.mem (oLoc c) = fin (xs m) c ∧ ∀ sm : SemLoc sig, sm.isScoped .tc = false → s.sem ((c.tc : Thread nD τ), sm) = 0)
    (hY := final_read m)
    (hQ := fun _ h hs => ⟨fun c => ⟨(h c).2.2.1, ((h c).1 (0 : Fin 1)).trans (arg_kept m c)⟩, sem_eq_zero hs fun c => (h c).2.2.2⟩)

end Cert.Ring

end
-- ==== Proof.Value.lean ====
/-
# The value of the result

When every device starts with its block of one array, cut in four along the second mesh axis, what the devices end with is
that array.
-/
module

public import proofs.«01_k».proof.Proof.Launch
public import Idealize.ShloMosaic.Lib.Layout

@[expose] public section

noncomputable section

namespace Cert.Ring

open Cert.KernelIdeal Cert.KernelIdeal.Gen
open Idealize.ShloMosaic
open Idealize.ShloMosaic.TcCoe
open Idealize.SL.Sem

variable {F : FTy → Type} [FloatOps F]

/-- The staged argument is the argument: the window is the whole array. -/
theorem xs_eq (m : (ℓ : Loc nD τ sig) → Buf (Elt F) ℓ) (c : Dev nD) : xs m c = m ((c : Thread nD τ).loc main_arg0) := by
  funext i
  unfold xs
  rw [View.read_apply]
  refine congrArg (m ((c : Thread nD τ).loc main_arg0)) (sIdx_ext ?_ ?_)
  · show 0 * 2048 + 1 * (i 0).val = _
    omega
  · show 0 * 512 + 1 * (i 1).val = _
    omega

/-- The block that a device holds is the one that its place along the second mesh axis numbers. -/
theorem block_no : ∀ d : Dev nD, Layout.meshLin [2, 4, 4] d.val [1] = yc d := by decide +kernel

/-- A device's block of an array, at the place in the block of a row in that block, is the array at that row. -/
theorem block_fold {α : Type} (X : S8192x512.Idx → α) (d : Dev nD) (i : S8192x512.Idx) (hd : yc d = (i 0).val / 2048) :
    (Layout.blockN ⟨2, ![2048, 512]⟩ ⟨2, ![8192, 512]⟩ (Layout.meshBlock [2, 4, 4] ![[1], []] d) X : S2048x512.Idx → α) (fold i) = X i := by
  refine congrArg X (oIdx_ext ?_ ?_)
  · show Layout.meshLin [2, 4, 4] d.val [1] * 2048 + (i 0).val % 2048 = (i 0).val
    rw [block_no, hd]
    omega
  · show 0 * 512 + (i 1).val = (i 1).val
    omega

/-- A device's place along the second mesh axis, from its three places. -/
theorem yc_mk (x y z : ℕ) : yc (mk x y z) = y % 4 := by
  show (16 * (x % 2) + 4 * (y % 4) + z % 4) / 4 % 4 = y % 4
  omega

/-- When every device starts with its block of an array, every device's result is that array. -/
theorem fin_eq (X : S8192x512.Idx → Elt F .f32) (w : Dev nD → S2048x512.Idx → Elt F .f32)
    (hw : ∀ c, w c = Layout.blockN ⟨2, ![2048, 512]⟩ ⟨2, ![8192, 512]⟩ (Layout.meshBlock [2, 4, 4] ![[1], []] c) X) (c : Dev nD) :
    fin w c = X := by
  funext i
  have hi : (i 0).val < 8192 := (i 0).isLt
  unfold fin
  split
  · next h => exact (congrFun (hw c) _).trans (block_fold X c i h.symm)
  · exact (congrFun (hw _) _).trans (block_fold X _ i ((yc_mk _ _ _).trans (Nat.mod_eq_of_lt (by omega))))

end Cert.Ring

end
-- ==== Proof.Reference.lean ====
/-
# The run of the reference

The reference returns its argument: its program has no operation, and its machine no semaphore.
-/
module

public import proofs.«01_k».proof.Proof.Gen.ReferenceIdeal
public import Idealize.ShloMosaic.Lib.StableHlo.Run
public import Idealize.ShloMosaic.Lib.Quiescent
public import Idealize.ShloMosaic.Adequacy
public import Idealize.ShloMosaic.Init

@[expose] public section

noncomputable section

namespace Cert.Ring.Reference

open Cert.ReferenceIdeal Cert.ReferenceIdeal.Gen
open Idealize.ShloMosaic Idealize.ShloMosaic.TcCoe Idealize.SL.Sem Idealize.ShloMosaic.StableHlo

variable {F : FTy → Type} [FloatOps F]

/-- Every weakly fair execution of the reference terminates, and in every final state every buffer is as it was and every
    semaphore at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun _ h => ⟨fun c => h c main_arg0, sem_eq_zero_of_no_sems rfl _⟩)
    (run_seq (by decide) (by decide) defs main (fun _ => []) (fun _ => rfl) (fun _ => trivial) m ρ)

end Cert.Ring.Reference

end
-- ==== Proof.Same.lean ====
/-
# The two programs are one

The program read over words and the one read over the extended reals have the same text; here their body tables are shown
equal, over any float values.
-/
module

public import proofs.«01_k».proof.Proof.Gen.Kernel
public import proofs.«01_k».proof.Proof.Gen.KernelIdeal

@[expose] public section

noncomputable section

namespace Cert.Ring

open Idealize.ShloMosaic

attribute [local instance] Cert.Kernel.Gen.facts Cert.KernelIdeal.Gen.facts

variable {F : FTy → Type} [FloatOps F]

/-- The kernels' bodies are equal. -/
theorem body_same : Cert.Kernel.cc0_body (F := F) = Cert.KernelIdeal.cc0_body (F := F) := rfl

/-- So are the tables that hold them, -/
theorem table_same : Cert.Kernel.defs₀ (F := F) = Cert.KernelIdeal.defs₀ (F := F) := by
  unfold Cert.Kernel.defs₀ Cert.KernelIdeal.defs₀
  refine congrArg _ (funext fun ℓ => ?_)
  match ℓ with
  | 0 =>
    refine funext fun ⟨_, _⟩ => ?_
    dsimp only
    rw [body_same]

/-- and the programs' tables made from those. -/
theorem defs_same : Cert.Kernel.defs (F := F) = Cert.KernelIdeal.defs (F := F) := congrArg (Pipeline.defs _) table_same

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Reference
public import proofs.«01_k».proof.Proof.Same
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel as it stands, over words: it terminates, its arguments end as they were and every semaphore at zero. The
    two programs have one text, so this is the run of the other read over words. -/
theorem frame_kernel : Cert.quiescent_Kernel := fun m ρ _ => by
  rw [Cert.Ring.defs_same]
  exact (θ_run Cert.KernelIdeal.defs _ _).mono (fun _ h => ⟨fun c => (h.1 c).2, h.2⟩) (Cert.Ring.run_main (F := Bits) m ρ)

/-- The kernel over the extended reals: the same. -/
theorem frame_ideal : Cert.quiescent_KernelIdeal := fun m ρ _ =>
  (θ_run Cert.KernelIdeal.defs _ _).mono (fun _ h => ⟨fun c => (h.1 c).2, h.2⟩) (Cert.Ring.run_main (F := Ideal) m ρ)

/-- The reference: the same. -/
theorem frame_reference : Cert.quiescent_ReferenceIdeal := fun m ρ _ => Cert.Ring.Reference.run_ref (F := Ideal) m ρ

/-- From devices that hold their blocks of one array, every device's result is the array, which is what the reference
    returns. -/
theorem gathers : Cert.algebraic_KernelIdeal_ReferenceIdeal := fun m ρ m' ρ' _ hblk =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.Ring.fin_eq _ _ (fun d => (Cert.Ring.xs_eq m d).trans (hblk d)) c), (h.1 c).2⟩)
      (Cert.Ring.run_main (F := Ideal) m ρ),
    (θ_run Cert.ReferenceIdeal.defs _ _).mono (fun _ h => ⟨h.1 0, h.1 0⟩) (Cert.Ring.Reference.run_ref (F := Ideal) m' ρ')⟩

/-- Everything that is claimed. -/
theorem claim : Cert.Claim :=
  ⟨Cert.Kernel.Gen.facts, Cert.KernelIdeal.Gen.facts, Cert.ReferenceIdeal.Gen.facts,
    frame_kernel, frame_ideal, frame_reference, trivial, gathers⟩

end Cert.Proof

end
